-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "scale" .f32 0x3E8293EE#32 ((((Real.log 2) * (Real.sqrt 32))⁻¹ : ℝ) : EReal)
  ∧ IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x64 : Shape := ⟨2, ![8192, 64]⟩
abbrev S8192x8192 : Shape := ⟨2, ![8192, 8192]⟩
abbrev S64x64 : Shape := ⟨2, ![64, 64]⟩
abbrev S64x32 : Shape := ⟨2, ![64, 32]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg7 : FVec F S64x32 .f32) (main_arg8 : FVec F S64x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg7
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S8192x64 .f32) (main_arg1 : FVec F S8192x8192 .f32) (main_arg2 : FVec F S64x64 .f32) (main_arg3 : FVec F S64x32 .f32) (main_arg4 : FVec F S64x32 .f32) (main_arg5 : FVec F S64 .f32) (main_arg6 : FVec F S64x64 .f32) (main_arg7 : FVec F S64x32 .f32) (main_arg8 : FVec F S64x32 .f32) (main_arg9 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x32 .f32 := Host.absf main_arg3
  let main_cst_2 : FVec F S_ .f32 := constant S_ .f32 0x7F800000#32
  let main_v10 : FVec F S64x32 .f32 := broadcastInDim S64x32 ![] bcast_S_S64x32 main_cst_2
  let main_v11 : IVec S64x32 1 := cmpf .olt main_v9 main_v10
  let main_c_3 : IVec S_ 1 := constantI S_ 1 1#1
  let main_v12 : IVec S_ 1 := (fun x v => Host.reduce IntOp.andi x v reducesTo_S64x32_S_d0_1 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg7 main_arg8 main_v13 main_v16
-- ==== Kernel.lean ====
abbrev S8192x64 : Shape := ⟨2, ![8192, 64]⟩
abbrev S8192x8192 : Shape := ⟨2, ![8192, 8192]⟩
abbrev S64x64 : Shape := ⟨2, ![64, 64]⟩
abbrev S64x32 : Shape := ⟨2, ![64, 32]⟩
abbrev S64 : Shape := ⟨1, ![64]⟩
abbrev S16x256 : Shape := ⟨2, ![16, 256]⟩
abbrev S1x64 : Shape := ⟨2, ![1, 64]⟩
abbrev S512x8192 : Shape := ⟨2, ![512, 8192]⟩
abbrev S256x8192 : Shape := ⟨2, ![256, 8192]⟩
abbrev S256x64 : Shape := ⟨2, ![256, 64]⟩
abbrev S16x8192 : Shape := ⟨2, ![16, 8192]⟩
abbrev S32x8192 : Shape := ⟨2, ![32, 8192]⟩
abbrev S_ : Shape := ⟨0, ![]⟩
abbrev S256x32 : Shape := ⟨2, ![256, 32]⟩
abbrev S256 : Shape := ⟨1, ![256]⟩
abbrev S256x1 : Shape := ⟨2, ![256, 1]⟩
abbrev S512x64 : Shape := ⟨2, ![512, 64]⟩
abbrev S512x32 : Shape := ⟨2, ![512, 32]⟩
abbrev S32x1x8192 : Shape := ⟨3, ![32, 1, 8192]⟩
abbrev S32x16x8192 : Shape := ⟨3, ![32, 16, 8192]⟩
abbrev S1x16x1 : Shape := ⟨3, ![1, 16, 1]⟩
abbrev S512 : Shape := ⟨1, ![512]⟩
abbrev S512x1 : Shape := ⟨2, ![512, 1]⟩

abbrev nBuf : Space → Nat
  | .hbm => 18
  | .vmem => 29
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x64, .f32⟩
  | .hbm, ⟨3, _⟩ => ⟨S64x32, .f32⟩
  | .hbm, ⟨4, _⟩ => ⟨S64x32, .f32⟩
  | .hbm, ⟨5, _⟩ => ⟨S64, .f32⟩
  | .hbm, ⟨6, _⟩ => ⟨S64x64, .f32⟩
  | .hbm, ⟨7, _⟩ => ⟨S64x32, .f32⟩
  | .hbm, ⟨8, _⟩ => ⟨S64x32, .f32⟩
  | .hbm, ⟨9, _⟩ => ⟨S64, .f32⟩
  | .hbm, ⟨10, _⟩ => ⟨S16x256, .f32⟩
  | .hbm, ⟨11, _⟩ => ⟨S1x64, .f32⟩
  | .hbm, ⟨12, _⟩ => ⟨S8192x8192, .f32⟩
  | .hbm, ⟨13, _⟩ => ⟨S8192x64, .f32⟩
  | .hbm, ⟨14, _⟩ => ⟨S512x8192, .f32⟩
  | .hbm, ⟨15, _⟩ => ⟨S1x64, .f32⟩
  | .hbm, ⟨16, _⟩ => ⟨S8192x8192, .f32⟩
  | .hbm, ⟨17, _⟩ => ⟨S8192x64, .f32⟩
  | .local _ .vmem, ⟨0, _⟩ => ⟨S256x8192, .f32⟩
  | .local _ .vmem, ⟨1, _⟩ => ⟨S256x8192, .f32⟩
  | .local _ .vmem, ⟨2, _⟩ => ⟨S64x64, .f32⟩
  | .local _ .vmem, ⟨3, _⟩ => ⟨S64x32, .f32⟩
  | .local _ .vmem, ⟨4, _⟩ => ⟨S64x32, .f32⟩
  | .local _ .vmem, ⟨5, _⟩ => ⟨S1x64, .f32⟩
  | .local _ .vmem, ⟨6, _⟩ => ⟨S16x256, .f32⟩
  | .local _ .vmem, ⟨7, _⟩ => ⟨S256x8192, .f32⟩
  | .local _ .vmem, ⟨8, _⟩ => ⟨S256x8192, .f32⟩
  | .local _ .vmem, ⟨9, _⟩ => ⟨S256x64, .f32⟩
  | .local _ .vmem, ⟨10, _⟩ => ⟨S256x64, .f32⟩
  | .local _ .vmem, ⟨11, _⟩ => ⟨S16x8192, .f32⟩
  | .local _ .vmem, ⟨12, _⟩ => ⟨S16x8192, .f32⟩
  | .local _ .vmem, ⟨13, _⟩ => ⟨S8192x64, .f32⟩
  | .local _ .vmem, ⟨14, _⟩ => ⟨S32x8192, .f32⟩
  | .local _ .vmem, ⟨15, _⟩ => ⟨S8192x64, .f32⟩
  | .local _ .vmem, ⟨16, _⟩ => ⟨S32x8192, .f32⟩
  | .local _ .vmem, ⟨17, _⟩ => ⟨S32x8192, .f32⟩
  | .local _ .vmem, ⟨18, _⟩ => ⟨S64x64, .f32⟩
  | .local _ .vmem, ⟨19, _⟩ => ⟨S64x32, .f32⟩
  | .local _ .vmem, ⟨20, _⟩ => ⟨S64x32, .f32⟩
  | .local _ .vmem, ⟨21, _⟩ => ⟨S1x64, .f32⟩
  | .local _ .vmem, ⟨22, _⟩ => ⟨S512x8192, .f32⟩
  | .local _ .vmem, ⟨23, _⟩ => ⟨S512x8192, .f32⟩
  | .local _ .vmem, ⟨24, _⟩ => ⟨S512x64, .f32⟩
  | .local _ .vmem, ⟨25, _⟩ => ⟨S512x64, .f32⟩
  | .local _ .vmem, ⟨26, _⟩ => ⟨S8192x64, .f32⟩
  | .local _ .vmem, ⟨27, _⟩ => ⟨S32x8192, .f32⟩
  | .local _ .vmem, ⟨28, _⟩ => ⟨S8192x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def k1_off1 (i : grid1.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "mask" => some ⊥
  | "scale" => some ((((Real.log 2) * (Real.sqrt 32))⁻¹ : ℝ) : EReal)
  | _ => none
-- ==== ReferenceIdeal.lean ====
abbrev S8192x64 : Shape := ⟨2, ![8192, 64]⟩
abbrev S8192x8192 : Shape := ⟨2, ![8192, 8192]⟩
abbrev S64x64 : Shape := ⟨2, ![64, 64]⟩
abbrev S64x32 : Shape := ⟨2, ![64, 32]⟩
abbrev S64 : Shape := ⟨1, ![64]⟩
abbrev S_ : Shape := ⟨0, ![]⟩
abbrev S1x64 : Shape := ⟨2, ![1, 64]⟩
abbrev S8192x32 : Shape := ⟨2, ![8192, 32]⟩
abbrev S32x8192 : Shape := ⟨2, ![32, 8192]⟩
abbrev S8192 : Shape := ⟨1, ![8192]⟩
abbrev S8192x1 : Shape := ⟨2, ![8192, 1]⟩

abbrev nBuf : Space → Nat
  | .hbm => 103
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x64, .f32⟩
  | .hbm, ⟨3, _⟩ => ⟨S64x32, .f32⟩
  | .hbm, ⟨4, _⟩ => ⟨S64x32, .f32⟩
  | .hbm, ⟨5, _⟩ => ⟨S64, .f32⟩
  | .hbm, ⟨6, _⟩ => ⟨S64x64, .f32⟩
  | .hbm, ⟨7, _⟩ => ⟨S64x32, .f32⟩
  | .hbm, ⟨8, _⟩ => ⟨S64x32, .f32⟩
  | .hbm, ⟨9, _⟩ => ⟨S64, .f32⟩
  | .hbm, ⟨10, _⟩ => ⟨S_, .f32⟩
  | .hbm, ⟨11, _⟩ => ⟨S8192x8192, .f32⟩
  | .hbm, ⟨12, _⟩ => ⟨S8192x8192, .i1⟩
  | .hbm, ⟨13, _⟩ => ⟨S8192x8192, .i32⟩
  | .hbm, ⟨14, _⟩ => ⟨S8192x8192, .i32⟩
  | .hbm, ⟨15, _⟩ => ⟨S_, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S8192x8192, .i1⟩
  | .hbm, ⟨20, _⟩ => ⟨S8192x64, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S8192x32, .f32⟩
  | .hbm, ⟨25, _⟩ => ⟨S8192x32, .f32⟩
  | .hbm, ⟨26, _⟩ => ⟨S32x8192, .f32⟩
  | .hbm, ⟨27, _⟩ => ⟨S8192x8192, .f32⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S_, .f32⟩
  | .hbm, ⟨34, _⟩ => ⟨S8192x8192, .f32⟩
  | .hbm, ⟨35, _⟩ => ⟨S8192x8192, .i1⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x8192, .f32⟩
  | .hbm, ⟨57, _⟩ => ⟨S8192x8192, .f32⟩
  | .hbm, ⟨58, _⟩ => ⟨S8192x64, .f32⟩
  | .hbm, ⟨59, _⟩ => ⟨S8192x64, .f32⟩
  | .hbm, ⟨60, _⟩ => ⟨S_, .f32⟩
  | .hbm, ⟨61, _⟩ => ⟨S8192x64, .f32⟩
  | .hbm, ⟨62, _⟩ => ⟨S8192x64, .f32⟩
  | .hbm, ⟨63, _⟩ => ⟨S8192x64, .f32⟩
  | .hbm, ⟨64, _⟩ => ⟨S1x64, .f32⟩
  | .hbm, ⟨65, _⟩ => ⟨S8192x64, .f32⟩
  | .hbm, ⟨66, _⟩ => ⟨S8192x64, .f32⟩
  | .hbm, ⟨67, _⟩ => ⟨S8192x32, .f32⟩
  | .hbm, ⟨68, _⟩ => ⟨S8192x32, .f32⟩
  | .hbm, ⟨69, _⟩ => ⟨S32x8192, .f32⟩
  | .hbm, ⟨70, _⟩ => ⟨S8192x8192, .f32⟩
  | .hbm, ⟨71, _⟩ => ⟨S_, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S_, .f32⟩
  | .hbm, ⟨77, _⟩ => ⟨S8192x8192, .f32⟩
  | .hbm, ⟨78, _⟩ => ⟨S8192x8192, .i1⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S_, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192, .f32⟩
  | .hbm, ⟨89, _⟩ => ⟨S_, .f32⟩
  | .hbm, ⟨90, _⟩ => ⟨S8192, .f32⟩
  | .hbm, ⟨91, _⟩ => ⟨S8192, .f32⟩
  | .hbm, ⟨92, _⟩ => ⟨S8192x1, .f32⟩
  | .hbm, ⟨93, _⟩ => ⟨S8192x8192, .f32⟩
  | .hbm, ⟨94, _⟩ => ⟨S8192x8192, .f32⟩
  | .hbm, ⟨95, _⟩ => ⟨S8192x8192, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S8192x8192, .f32⟩
  | .hbm, ⟨100, _⟩ => ⟨S8192x8192, .f32⟩
  | .hbm, ⟨101, _⟩ => ⟨S8192x64, .f32⟩
  | .hbm, ⟨102, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v19 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call2_cst : Ref sig .tc := ⟨.hbm, 60, rfl⟩
abbrev main_call2_v0 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_call3_cst : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_v46 : Ref sig .tc := ⟨.hbm, 82, rfl⟩
abbrev main_cst_8 : Ref sig .tc := ⟨.hbm, 83, rfl⟩
abbrev main_call4_v0 : Ref sig .tc := ⟨.hbm, 84, rfl⟩
abbrev main_call4_v1 : Ref sig .tc := ⟨.hbm, 85, rfl⟩
abbrev main_v47 : Ref sig .tc := ⟨.hbm, 86, rfl⟩
abbrev main_cst_9 : Ref sig .tc := ⟨.hbm, 87, rfl⟩
abbrev main_v48 : Ref sig .tc := ⟨.hbm, 88, rfl⟩
abbrev main_cst_10 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_11 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩

abbrev nD : Nat := 1
abbrev τ : Topo := Topo.v7x

variable {F : FTy → Type} [FloatOps F]
-- ==== Proof.KI.Step0.lean ====
/-
  The first attention call, one grid point at a time.

  A grid point of the first call works on 256 rows of the graph. The first point also copies all node features into
  scratch memory and computes from them the projected features and the transposed keys, which later points reuse.
  `step0_first` and `step0_next` say what a point leaves in each buffer, as the payloads of the printed body.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem zeros2 : (![0, 0] : Fin 2 → Nat) = fun _ => 0 := funext fun a => by fin_cases a <;> rfl

/-- The body's test whether this is the first point, from the grid coordinate. -/
abbrev isFirst0 (i : grid0.Coords) : Prop :=
  (Scalar.cmpi .ne (Scalar.extui (Scalar.cmpi .eq (BitVec.ofNat 32 (i 0).val) 0#32)) 0#32) = 1#1

/-- The test holds at point 0 alone. -/
theorem isFirst0_iff (t : Fin cfg0.N) : isFirst0 (grid0.coords t) ↔ t.val = 0 := by
  have ht : t.val < 32 := Nat.lt_of_lt_of_eq t.isLt N_0
  have e0 : (grid0.coords t 0).val = t.val / 1 % 32 := Pipeline.Grid.coords_val t 0 (by decide) rfl
  simp only [isFirst0, e0]
  word_cmp

/-- The rows of the node features that point `i` works on. -/
abbrev rows0 (i : grid0.Coords) (X : Vec F S8192x64 .f32) : Vec F S256x64 .f32 :=
  View.ld X (Rect.unit (s := S8192x64) (k0_off1 i) S256x64.size (k0_off1_inb i))

/-- The masked scores of point `i`. -/
abbrev scores0 (i : grid0.Coords) (G : Vec F S256x8192 .f32) (Wq : Vec F S64x32 .f32)
    (X : Vec F S8192x64 .f32) (K : Vec F S32x8192 .f32) : FVec F S256x8192 .f32 :=
  k0_pay7 i (rows0 i X) Wq K G

/-- The operand in high-bandwidth memory, held whole. -/
abbrev hbm0 (c : Dev nD) (X : Buf (Elt F) ((c : Thread nD τ).loc main_arg0)) : sProp 𝕄 :=
  (Memref.whole main_arg0 : Memref sig .tc .hbm S8192x64 .f32).view.loc (c : Thread nD τ) ↦{fullShare} X

/-- A load of a rectangle, after the whole buffer was filled with `x`, reads `x` there. -/
theorem readCov_whole {sp : Space} {S : Shape} {e : EltTy} (v : View sig .tc sp S e) (x : S.Idx → Elt F e) (r : Rect S) :
    v.readCov (Val := Elt F) [⟨Rect.whole S, x⟩] r.toLoadRect = View.ld x r := by
  unfold View.readCov
  rw [View.readAt_eq_ld, View.read_writes_whole]

/-- A load at the origin of a rectangle of the full size reads the whole of a two-dimensional buffer. -/
theorem ld_full2 {n0 n1 : Nat} {e : EltTy} (inb : ∀ a, (![0, 0] : Fin 2 → Nat) a + (![n0, n1] : Fin 2 → Nat) a ≤ (![n0, n1] : Fin 2 → Nat) a)
    (X : (⟨2, ![n0, n1]⟩ : Shape).Idx → Elt F e) :
    View.ld X (Rect.unit (s := ⟨2, ![n0, n1]⟩) ![0, 0] ![n0, n1] inb) = X :=
  View.ld_unit_zero (S := ⟨2, ![n0, n1]⟩) zeros2 inb X

/-- A load of the whole of a two-dimensional buffer, after a store of `w` to the whole of it, reads `w`. -/
theorem readCov_full2 {sp : Space} {n0 n1 : Nat} {e : EltTy} (v : View sig .tc sp ⟨2, ![n0, n1]⟩ e)
    (inb inb' : ∀ a, (![0, 0] : Fin 2 → Nat) a + (![n0, n1] : Fin 2 → Nat) a ≤ (![n0, n1] : Fin 2 → Nat) a)
    (w : (⟨2, ![n0, n1]⟩ : Shape).Idx → Elt F e) :
    v.readCov (Val := Elt F) [⟨Rect.unit (s := ⟨2, ![n0, n1]⟩) ![0, 0] ![n0, n1] inb, w⟩]
      (Rect.unit (s := ⟨2, ![n0, n1]⟩) ![0, 0] ![n0, n1] inb').toLoadRect = w := by
  unfold View.readCov
  rw [View.readAt_eq_ld, ld_full2]
  exact View.read_writes_full (s := ⟨2, ![n0, n1]⟩) v _ inb w []

/-- A plain copy delivers what it read. -/
theorem same_apply (X : Vec F S8192x64 .f32) :
    (ReadAs.same : ReadAs (Elt F) S8192x64 .f32 S8192x64 .f32).apply X = X := rfl

/-- The operand in high-bandwidth memory, read whole, is its contents. -/
theorem read_hbm0 (c : Dev nD) (X : Buf (Elt F) ((c : Thread nD τ).loc main_arg0)) :
    View.read (Elt F) (Memref.whole main_arg0 : Memref sig .tc .hbm S8192x64 .f32).view X = X := rfl

set_option maxHeartbeats 1000000 in
/-- The first point: the features are copied, the projections computed, then the point's own rows are done. -/
theorem step0_first (c : Dev nD) (i : grid0.Coords) (arg1 : Memref sig .tc .vmem S256x8192 .f32) (harg1 : arg1.IsWhole) (arg3 : Memref sig .tc .vmem S64x64 .f32) (harg3 : arg3.IsWhole) (arg4 : Memref sig .tc .vmem S64x32 .f32) (harg4 : arg4.IsWhole) (arg5 : Memref sig .tc .vmem S64x32 .f32) (harg5 : arg5.IsWhole) (arg6 : Memref sig .tc .vmem S1x64 .f32) (harg6 : arg6.IsWhole) (arg7 : Memref sig .tc .vmem S16x256 .f32) (harg7 : arg7.IsWhole) (arg8 : Memref sig .tc .vmem S256x8192 .f32) (harg8 : arg8.IsWhole) (arg9 : Memref sig .tc .vmem S256x64 .f32) (harg9 : arg9.IsWhole) (arg10 : Memref sig .tc .vmem S16x8192 .f32) (harg10 : arg10.IsWhole) (arg11 : Memref sig .tc .vmem S8192x64 .f32) (harg11 : arg11.IsWhole) (arg12 : Memref sig .tc .vmem S32x8192 .f32) (harg12 : arg12.IsWhole) (arg13 : Memref sig .tc .vmem S8192x64 .f32) (harg13 : arg13.IsWhole) (hc0 : isFirst0 i)
    (G : Vec F S256x8192 .f32) (Wh : Vec F S64x64 .f32) (Wq : Vec F S64x32 .f32) (Wk : Vec F S64x32 .f32) (b : Vec F S1x64 .f32) (P : Vec F S16x256 .f32)
    (X : Buf (Elt F) ((c : Thread nD τ).loc main_arg0)) (W : Waits sig Unit) (K : PUnit → sProp 𝕄) :
    iprop(owns (c : Thread nD τ) arg1 fullShare G ∗ owns (c : Thread nD τ) arg3 fullShare Wh ∗ owns (c : Thread nD τ) arg4 fullShare Wq ∗ owns (c : Thread nD τ) arg5 fullShare Wk ∗ owns (c : Thread nD τ) arg6 fullShare b ∗ owns (c : Thread nD τ) arg7 fullShare P ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ semVal ((c : Thread nD τ), SemLoc.dma 13) 0 ∗ hbm0 c X ∗ owes (c : Thread nD τ) 0 W
        ∗ (iprop(owns (c : Thread nD τ) arg1 fullShare G ∗ owns (c : Thread nD τ) arg3 fullShare Wh ∗ owns (c : Thread nD τ) arg4 fullShare Wq ∗ owns (c : Thread nD τ) arg5 fullShare Wk ∗ owns (c : Thread nD τ) arg6 fullShare b ∗ owns (c : Thread nD τ) arg7 fullShare P
            ∗ owns (c : Thread nD τ) arg8 fullShare (k0_pay1 (scores0 i G Wq X (k0_pay4 X Wk)))
            ∗ owns (c : Thread nD τ) arg9 fullShare (k0_pay2 (rows0 i X) (k0_pay3 X Wh b) (scores0 i G Wq X (k0_pay4 X Wk)))
            ∗ owns (c : Thread nD τ) arg10 fullShare (k0_pay6 i G P)
            ∗ owns (c : Thread nD τ) arg11 fullShare X ∗ owns (c : Thread nD τ) arg12 fullShare (k0_pay4 X Wk) ∗ owns (c : Thread nD τ) arg13 fullShare (k0_pay3 X Wh b)
            ∗ semVal ((c : Thread nD τ), SemLoc.dma 13) 0 ∗ hbm0 c X ∗ (∃ W', owes (c : Thread nD τ) 0 W')) -∗ K ⟨⟩))
      ⊢ wp frame (wpE (defs₀ (F := F)) Variants.none c none) Set.univ (cc0__att1_kernel i arg1 harg1 (Memref.whole main_arg0) (Memref.isWhole_whole _) arg3 harg3 arg4 harg4 arg5 harg5 arg6 harg6 arg7 harg7 arg8 harg8 arg9 harg9 arg10 harg10 arg11 harg11 arg12 harg12 arg13 harg13 cc0_scratch3) K := by
  simp only [cc0__att1_kernel_eq_skeleton]; unfold cc0__att1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, Hq0, Hh0, HW, Hk⟩
  obtain rfl := harg1.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    refine (View.read_writes_full _ _ _ _ _).trans ?_
    simp only [View.readAt_eq_ld, readCov_whole, View.read_writes_whole, readCov_full2, read_hbm0 c X, same_apply, ld_full2, harg1.read_unread, harg3.read_unread, harg4.read_unread, harg5.read_unread, harg6.read_unread, harg7.read_unread]
    try rfl
  isplitl [H7]
  · iexists _; isplitr
    swap; · iexact H7
    ipureintro
    sl_unfold_words
    refine (View.read_writes_full _ _ _ _ _).trans ?_
    simp only [View.readAt_eq_ld, readCov_whole, View.read_writes_whole, readCov_full2, read_hbm0 c X, same_apply, ld_full2, harg1.read_unread, harg3.read_unread, harg4.read_unread, harg5.read_unread, harg6.read_unread, harg7.read_unread]
    try rfl
  isplitl [H8]
  · iexists _; isplitr
    swap; · iexact H8
    ipureintro
    sl_unfold_words
    refine (View.read_writes_full _ _ _ _ _).trans ?_
    simp only [View.readAt_eq_ld, readCov_whole, View.read_writes_whole, readCov_full2, read_hbm0 c X, same_apply, ld_full2, harg1.read_unread, harg3.read_unread, harg4.read_unread, harg5.read_unread, harg6.read_unread, harg7.read_unread]
    try rfl
  isplitl [HS0]
  · iexists _; isplitr
    swap; · iexact HS0
    ipureintro
    sl_unfold_words
    exact View.read_writes_whole _ _ _
  isplitl [HS1]
  · iexists _; isplitr
    swap; · iexact HS1
    ipureintro
    sl_unfold_words
    refine (View.read_writes_full _ _ _ _ _).trans ?_
    simp only [View.readAt_eq_ld, readCov_whole, View.read_writes_whole, readCov_full2, read_hbm0 c X, same_apply, ld_full2, harg1.read_unread, harg3.read_unread, harg4.read_unread, harg5.read_unread, harg6.read_unread, harg7.read_unread]
    try rfl
  isplitl [HS2]
  · iexists _; isplitr
    swap; · iexact HS2
    ipureintro
    sl_unfold_words
    refine (View.read_writes_full _ _ _ _ _).trans ?_
    simp only [View.readAt_eq_ld, readCov_whole, View.read_writes_whole, readCov_full2, read_hbm0 c X, same_apply, ld_full2, harg1.read_unread, harg3.read_unread, harg4.read_unread, harg5.read_unread, harg6.read_unread, harg7.read_unread]
    try rfl
  isplitl [Hq0]; · iexact Hq0
  isplitl [Hh0]; · iexact Hh0
  iexists _; iexact HW

set_option maxHeartbeats 1000000 in
/-- A later point: the scratch memories are read, and the point's own rows are done. -/
theorem step0_next (c : Dev nD) (i : grid0.Coords) (arg1 : Memref sig .tc .vmem S256x8192 .f32) (harg1 : arg1.IsWhole) (arg3 : Memref sig .tc .vmem S64x64 .f32) (harg3 : arg3.IsWhole) (arg4 : Memref sig .tc .vmem S64x32 .f32) (harg4 : arg4.IsWhole) (arg5 : Memref sig .tc .vmem S64x32 .f32) (harg5 : arg5.IsWhole) (arg6 : Memref sig .tc .vmem S1x64 .f32) (harg6 : arg6.IsWhole) (arg7 : Memref sig .tc .vmem S16x256 .f32) (harg7 : arg7.IsWhole) (arg8 : Memref sig .tc .vmem S256x8192 .f32) (harg8 : arg8.IsWhole) (arg9 : Memref sig .tc .vmem S256x64 .f32) (harg9 : arg9.IsWhole) (arg10 : Memref sig .tc .vmem S16x8192 .f32) (harg10 : arg10.IsWhole) (arg11 : Memref sig .tc .vmem S8192x64 .f32) (harg11 : arg11.IsWhole) (arg12 : Memref sig .tc .vmem S32x8192 .f32) (harg12 : arg12.IsWhole) (arg13 : Memref sig .tc .vmem S8192x64 .f32) (harg13 : arg13.IsWhole) (hc0 : ¬ isFirst0 i)
    (G : Vec F S256x8192 .f32) (Wh : Vec F S64x64 .f32) (Wq : Vec F S64x32 .f32) (Wk : Vec F S64x32 .f32) (b : Vec F S1x64 .f32) (P : Vec F S16x256 .f32)
    (X : Buf (Elt F) ((c : Thread nD τ).loc main_arg0)) (Y : Vec F S8192x64 .f32) (Kt : Vec F S32x8192 .f32) (H : Vec F S8192x64 .f32) (W : Waits sig Unit) (K : PUnit → sProp 𝕄) :
    iprop(owns (c : Thread nD τ) arg1 fullShare G ∗ owns (c : Thread nD τ) arg3 fullShare Wh ∗ owns (c : Thread nD τ) arg4 fullShare Wq ∗ owns (c : Thread nD τ) arg5 fullShare Wk ∗ owns (c : Thread nD τ) arg6 fullShare b ∗ owns (c : Thread nD τ) arg7 fullShare P ∗ (∃ d, owns (c : Thread nD τ) arg8 fullShare d) ∗ (∃ d, owns (c : Thread nD τ) arg9 fullShare d) ∗ (∃ d, owns (c : Thread nD τ) arg10 fullShare d) ∗ owns (c : Thread nD τ) arg11 fullShare Y ∗ owns (c : Thread nD τ) arg12 fullShare Kt ∗ owns (c : Thread nD τ) arg13 fullShare H ∗ semVal ((c : Thread nD τ), SemLoc.dma 13) 0 ∗ hbm0 c X ∗ owes (c : Thread nD τ) 0 W
        ∗ (iprop(owns (c : Thread nD τ) arg1 fullShare G ∗ owns (c : Thread nD τ) arg3 fullShare Wh ∗ owns (c : Thread nD τ) arg4 fullShare Wq ∗ owns (c : Thread nD τ) arg5 fullShare Wk ∗ owns (c : Thread nD τ) arg6 fullShare b ∗ owns (c : Thread nD τ) arg7 fullShare P
            ∗ owns (c : Thread nD τ) arg8 fullShare (k0_pay1 (scores0 i G Wq Y Kt))
            ∗ owns (c : Thread nD τ) arg9 fullShare (k0_pay2 (rows0 i Y) H (scores0 i G Wq Y Kt))
            ∗ owns (c : Thread nD τ) arg10 fullShare (k0_pay6 i G P)
            ∗ owns (c : Thread nD τ) arg11 fullShare Y ∗ owns (c : Thread nD τ) arg12 fullShare Kt ∗ owns (c : Thread nD τ) arg13 fullShare H
            ∗ semVal ((c : Thread nD τ), SemLoc.dma 13) 0 ∗ hbm0 c X ∗ (∃ W', owes (c : Thread nD τ) 0 W')) -∗ K ⟨⟩))
      ⊢ wp frame (wpE (defs₀ (F := F)) Variants.none c none) Set.univ (cc0__att1_kernel i arg1 harg1 (Memref.whole main_arg0) (Memref.isWhole_whole _) arg3 harg3 arg4 harg4 arg5 harg5 arg6 harg6 arg7 harg7 arg8 harg8 arg9 harg9 arg10 harg10 arg11 harg11 arg12 harg12 arg13 harg13 cc0_scratch3) K := by
  simp only [cc0__att1_kernel_eq_skeleton]; unfold cc0__att1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hs0, HS0⟩, ⟨%fs1, %hs1, HS1⟩, ⟨%fs2, %hs2, HS2⟩, Hq0, Hh0, HW, Hk⟩
  obtain rfl := harg1.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hs0; obtain rfl := harg12.eq_unread hs1; obtain rfl := harg13.eq_unread hs2
  sl_exec (disch := first | sl_exact hc0)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    refine (View.read_writes_full _ _ _ _ _).trans ?_
    simp only [View.readAt_eq_ld, readCov_whole, View.read_writes_whole, readCov_full2, ld_full2, harg11.read_unread, harg12.read_unread, harg13.read_unread, harg1.read_unread, harg3.read_unread, harg4.read_unread, harg5.read_unread, harg6.read_unread, harg7.read_unread]
    try rfl
  isplitl [H7]
  · iexists _; isplitr
    swap; · iexact H7
    ipureintro
    sl_unfold_words
    refine (View.read_writes_full _ _ _ _ _).trans ?_
    simp only [View.readAt_eq_ld, readCov_whole, View.read_writes_whole, readCov_full2, ld_full2, harg11.read_unread, harg12.read_unread, harg13.read_unread, harg1.read_unread, harg3.read_unread, harg4.read_unread, harg5.read_unread, harg6.read_unread, harg7.read_unread]
    try rfl
  isplitl [H8]
  · iexists _; isplitr
    swap; · iexact H8
    ipureintro
    sl_unfold_words
    refine (View.read_writes_full _ _ _ _ _).trans ?_
    simp only [View.readAt_eq_ld, readCov_whole, View.read_writes_whole, readCov_full2, ld_full2, harg11.read_unread, harg12.read_unread, harg13.read_unread, harg1.read_unread, harg3.read_unread, harg4.read_unread, harg5.read_unread, harg6.read_unread, harg7.read_unread]
    try rfl
  isplitl [HS0]
  · iexists _; isplitr; · ipureintro; exact harg11.read_unread _
    iexact HS0
  isplitl [HS1]
  · iexists _; isplitr; · ipureintro; exact harg12.read_unread _
    iexact HS1
  isplitl [HS2]
  · iexists _; isplitr; · ipureintro; exact harg13.read_unread _
    iexact HS2
  isplitl [Hq0]; · iexact Hq0
  isplitl [Hh0]; · iexact Hh0
  iexists _; iexact HW

end Cert.KernelIdeal.Attn

end
-- ==== Proof.KI.Region0.lean ====
/-
  The first attention call as a kernel region, entered at any contents `V` of the device's buffers.

  `dat0` states what the region leaves in its windows' staging buffers at each grid point; `seg0` is the region's record
  for the run of the whole program.
-/
module

public import proofs.«01_k».proof.Proof.KI.Step0
public import Idealize.ShloMosaic.Lib.Pipeline.RegionArraysD
public import proofs.«01_k».proof.Proof.Gen.KernelIdeal.Regions

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : Dev nD → Valuation τ sig (Elt F))

/-- What buffer `b` of device `c` holds when the region is entered. -/
abbrev at0 (c : Dev nD) (b : Ref sig .tc) : Buf (Elt F) ((c : Thread nD τ).loc b) := V c (Proc.devRef .tc b)

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (at0 V c (Pipeline.arrRef spec0 w))

/-- The first grid point. -/
def first0 : Fin cfg0.N := ⟨0, Nat.lt_of_lt_of_eq (by decide : 0 < 32) N_0.symm⟩

/-- The node features, as the region finds them. -/
abbrev feat0 (c : Dev nD) : Vec F S8192x64 .f32 := at0 V c main_arg0
/-- The transposed keys of all nodes. -/
def keys0 (c : Dev nD) : Vec F S32x8192 .f32 := k0_pay4 (feat0 V c) (blk0 V c 3 first0)
/-- The projected features of all nodes. -/
def proj0 (c : Dev nD) : Vec F S8192x64 .f32 := k0_pay3 (feat0 V c) (blk0 V c 1 first0) (blk0 V c 4 first0)
/-- The attention weights of the rows of point `t`. -/
def weights0 (c : Dev nD) (t : Fin cfg0.N) : Vec F S256x8192 .f32 :=
  k0_pay1 (scores0 (grid0.coords t) (blk0 V c 0 t) (blk0 V c 2 t) (feat0 V c) (keys0 V c))
/-- The new features of the rows of point `t`. -/
def rowsOut0 (c : Dev nD) (t : Fin cfg0.N) : Vec F S256x64 .f32 :=
  k0_pay2 (rows0 (grid0.coords t) (feat0 V c)) (proj0 V c) (scores0 (grid0.coords t) (blk0 V c 0 t) (blk0 V c 2 t) (feat0 V c) (keys0 V c))
/-- The packed mask of the rows of point `t`. -/
def packed0 (c : Dev nD) (t : Fin cfg0.N) : Vec F S16x8192 .f32 :=
  k0_pay6 (grid0.coords t) (blk0 V c 0 t) (blk0 V c 5 t)

/-- What every point keeps: the other scoped buffers, the generator register, the copy's semaphore and the operand. -/
def kept0 (c : Dev nD) : sProp 𝕄 :=
  iprop(Pipeline.scopedRestBut spec0 c [cc0_scratch0, cc0_scratch1, cc0_scratch2] ∗ (∃ r, prngReg c r) ∗ semVal ((c : Thread nD τ), SemLoc.dma 13) 0 ∗ hbm0 c (feat0 V c))

/-- The scratch memories before point `n`: at anything before the first, then the features, the keys and the projections. -/
def inv0 (c : Dev nD) : ℕ → sProp 𝕄
  | 0 => iprop((∃ d, owns (c : Thread nD τ) (Memref.whole cc0_scratch0 : Memref sig .tc .vmem S8192x64 .f32) fullShare d) ∗ (∃ d, owns (c : Thread nD τ) (Memref.whole cc0_scratch1 : Memref sig .tc .vmem S32x8192 .f32) fullShare d) ∗ (∃ d, owns (c : Thread nD τ) (Memref.whole cc0_scratch2 : Memref sig .tc .vmem S8192x64 .f32) fullShare d) ∗ kept0 V c)
  | _ + 1 => iprop(owns (c : Thread nD τ) (Memref.whole cc0_scratch0 : Memref sig .tc .vmem S8192x64 .f32) fullShare (feat0 V c) ∗ owns (c : Thread nD τ) (Memref.whole cc0_scratch1 : Memref sig .tc .vmem S32x8192 .f32) fullShare (keys0 V c) ∗ owns (c : Thread nD τ) (Memref.whole cc0_scratch2 : Memref sig .tc .vmem S8192x64 .f32) fullShare (proj0 V c) ∗ kept0 V c)

/-- The region's proof data: arrays as found, an input's buffer at its block, an output's at what the point computes. -/
def dat0 (c : Dev nD) : Dat τ (Elt F) Unit ℕ (Pipeline.UD sig nD τ) ℕ cfg0 c where
  A w := at0 V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => weights0 V c t
    | ⟨7, _⟩ => rowsOut0 V c t
    | ⟨8, _⟩ => packed0 V c t
  Φ t := inv0 V c t.val
  q _ := fullShare
  owed _ := 0

theorem dat0_A (c : Dev nD) (w : Fin cfg0.W) : (dat0 V c).A w = at0 V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = weights0 V c t := by dsimp only [dat0]
theorem after0_7 (c : Dev nD) (t : Fin cfg0.N) : (dat0 V c).after 7 t = rowsOut0 V c t := by dsimp only [dat0]
theorem after0_8 (c : Dev nD) (t : Fin cfg0.N) : (dat0 V c).after 8 t = packed0 V c t := by dsimp only [dat0]

/-! Every point finds an input's block in its staging buffer, whether or not it was fetched there. -/

theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [dat0_A]; try rfl) t d).trans
    (by unfold Dat.fetched Dat.blockOf blk0; rw [dat0_A]; try rfl)
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [dat0_A]; try rfl) t d).trans
    (by unfold Dat.fetched Dat.blockOf blk0; rw [dat0_A]; try rfl)
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [dat0_A]; try rfl) t d).trans
    (by unfold Dat.fetched Dat.blockOf blk0; rw [dat0_A]; try rfl)
theorem before0_3 (c : Dev nD) (t : Fin cfg0.N) (d) : (dat0 V c).before 3 t d = blk0 V c 3 t :=
  ((dat0 V c).before_in_eq_fetched 3 rfl (fun _ => rfl) (fun _ _ _ => rfl) (fun t => by rw [after0_3]; unfold Dat.blockOf blk0; rw [dat0_A]; try rfl) t d).trans
    (by unfold Dat.fetched Dat.blockOf blk0; rw [dat0_A]; try rfl)
theorem before0_4 (c : Dev nD) (t : Fin cfg0.N) (d) : (dat0 V c).before 4 t d = blk0 V c 4 t :=
  ((dat0 V c).before_in_eq_fetched 4 rfl (fun _ => rfl) (fun _ _ _ => rfl) (fun t => by rw [after0_4]; unfold Dat.blockOf blk0; rw [dat0_A]; try rfl) t d).trans
    (by unfold Dat.fetched Dat.blockOf blk0; rw [dat0_A]; try rfl)
theorem before0_5 (c : Dev nD) (t : Fin cfg0.N) (d) : (dat0 V c).before 5 t d = blk0 V c 5 t :=
  ((dat0 V c).before_in_eq_fetched 5 rfl (fun _ => rfl) (fun _ _ _ => rfl) (fun t => by rw [after0_5]; unfold Dat.blockOf blk0; rw [dat0_A]; try rfl) t d).trans
    (by unfold Dat.fetched Dat.blockOf blk0; rw [dat0_A]; try rfl)

/-- What the body is called with at point `t`. -/
def pre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0) : Memref sig .tc .vmem S256x8192 .f32) fullShare ((dat0 V c).before 0 t d))
    ∗ (∃ d, owns (c : Thread nD τ) (win0_1.stage (cfg0.slots t 1) : Memref sig .tc .vmem S64x64 .f32) fullShare ((dat0 V c).before 1 t d))
    ∗ (∃ d, owns (c : Thread nD τ) (win0_2.stage (cfg0.slots t 2) : Memref sig .tc .vmem S64x32 .f32) fullShare ((dat0 V c).before 2 t d))
    ∗ (∃ d, owns (c : Thread nD τ) (win0_3.stage (cfg0.slots t 3) : Memref sig .tc .vmem S64x32 .f32) fullShare ((dat0 V c).before 3 t d))
    ∗ (∃ d, owns (c : Thread nD τ) (win0_4.stage (cfg0.slots t 4) : Memref sig .tc .vmem S1x64 .f32) fullShare ((dat0 V c).before 4 t d))
    ∗ (∃ d, owns (c : Thread nD τ) (win0_5.stage (cfg0.slots t 5) : Memref sig .tc .vmem S16x256 .f32) fullShare ((dat0 V c).before 5 t d))
    ∗ (∃ d, owns (c : Thread nD τ) (win0_6.stage (cfg0.slots t 6) : Memref sig .tc .vmem S256x8192 .f32) fullShare ((dat0 V c).before 6 t d))
    ∗ (∃ d, owns (c : Thread nD τ) (win0_7.stage (cfg0.slots t 7) : Memref sig .tc .vmem S256x64 .f32) fullShare ((dat0 V c).before 7 t d))
    ∗ (∃ d, owns (c : Thread nD τ) (win0_8.stage (cfg0.slots t 8) : Memref sig .tc .vmem S16x8192 .f32) fullShare ((dat0 V c).before 8 t d)))

/-- What it returns. -/
def post0 (c : Dev nD) (t : Fin cfg0.N) : sProp 𝕄 :=
  iprop((dat0 V c).Φ t.succ ∗ (dat0 V c).owesAt () t.succ
    ∗ owns (c : Thread nD τ) (win0_0.stage (cfg0.slots t 0) : Memref sig .tc .vmem S256x8192 .f32) fullShare ((dat0 V c).after 0 t)
    ∗ owns (c : Thread nD τ) (win0_1.stage (cfg0.slots t 1) : Memref sig .tc .vmem S64x64 .f32) fullShare ((dat0 V c).after 1 t)
    ∗ owns (c : Thread nD τ) (win0_2.stage (cfg0.slots t 2) : Memref sig .tc .vmem S64x32 .f32) fullShare ((dat0 V c).after 2 t)
    ∗ owns (c : Thread nD τ) (win0_3.stage (cfg0.slots t 3) : Memref sig .tc .vmem S64x32 .f32) fullShare ((dat0 V c).after 3 t)
    ∗ owns (c : Thread nD τ) (win0_4.stage (cfg0.slots t 4) : Memref sig .tc .vmem S1x64 .f32) fullShare ((dat0 V c).after 4 t)
    ∗ owns (c : Thread nD τ) (win0_5.stage (cfg0.slots t 5) : Memref sig .tc .vmem S16x256 .f32) fullShare ((dat0 V c).after 5 t)
    ∗ owns (c : Thread nD τ) (win0_6.stage (cfg0.slots t 6) : Memref sig .tc .vmem S256x8192 .f32) fullShare ((dat0 V c).after 6 t)
    ∗ owns (c : Thread nD τ) (win0_7.stage (cfg0.slots t 7) : Memref sig .tc .vmem S256x64 .f32) fullShare ((dat0 V c).after 7 t)
    ∗ owns (c : Thread nD τ) (win0_8.stage (cfg0.slots t 8) : Memref sig .tc .vmem S16x8192 .f32) fullShare ((dat0 V c).after 8 t))

set_option maxHeartbeats 2000000 in
/-- The body at any point. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5]
  rw [after0_0, after0_1, after0_2, after0_3, after0_4, after0_5, after0_6, after0_7, after0_8]
  rw [show (dat0 V c).Φ t.castSucc = inv0 V c t.val from rfl, show (dat0 V c).Φ t.succ = inv0 V c (t.val + 1) from rfl]
  unfold Dat.owesAt Pipeline.owesWithin
  rw [show (dat0 V c).owed t.castSucc = 0 from rfl, show (dat0 V c).owed t.succ = 0 from rfl]
  by_cases hz : t.val = 0
  · obtain rfl : t = first0 := Fin.ext hz
    rw [show inv0 V c first0.val = inv0 V c 0 from rfl]; unfold inv0 kept0
    iintro ⟨⟨HS0, HS1, HS2, Hr, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (step0_first c (grid0.coords first0) _ _ _ _ _ _ _ _ _ _ _ _ _ _ _ _ _ _ _ _ _ _ _ _ ((isFirst0_iff first0).mpr rfl) (blk0 V c 0 first0) (blk0 V c 1 first0) (blk0 V c 2 first0) (blk0 V c 3 first0) (blk0 V c 4 first0) (blk0 V c 5 first0) (feat0 V c) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, H7, H8, HS0, HS1, HS2, Hq0, Hh0, ⟨%W', HW'⟩⟩
    isplitl [HS0 HS1 HS2 Hr Hg Hq0 Hh0]
    · isplitl [HS0]; · iexact HS0
      isplitl [HS1]; · iexact HS1
      isplitl [HS2]; · iexact HS2
      isplitl [Hr]; · iexact Hr
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · obtain ⟨n, hn⟩ := Nat.exists_eq_succ_of_ne_zero hz
    rw [hn]; unfold inv0 kept0
    iintro ⟨⟨HS0, HS1, HS2, Hr, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (step0_next c (grid0.coords t) _ _ _ _ _ _ _ _ _ _ _ _ _ _ _ _ _ _ _ _ _ _ _ _ (fun h => hz ((isFirst0_iff t).mp h)) (blk0 V c 0 t) (blk0 V c 1 t) (blk0 V c 2 t) (blk0 V c 3 t) (blk0 V c 4 t) (blk0 V c 5 t) (feat0 V c) (feat0 V c) (keys0 V c) (proj0 V c) W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, H7, H8, HS0, HS1, HS2, Hq0, Hh0, ⟨%W', HW'⟩⟩
    isplitl [HS0 HS1 HS2 Hr Hg Hq0 Hh0]
    · isplitl [HS0]; · iexact HS0
      isplitl [HS1]; · iexact HS1
      isplitl [HS2]; · iexact HS2
      isplitl [Hr]; · iexact Hr
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The region's body obligation, at every point. -/
theorem obligation0 (c : Dev nD) : BodyObligation (dat0 V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body0 V c t) rfl .rfl fun _ => .rfl

/-- The copy's own semaphore. -/
abbrev osem0 : Fin 1 → SemLoc sig := fun j => (![SemLoc.dma 13] : Fin 1 → SemLoc sig) j
theorem osem0_facts : Pipeline.OwnSemFacts spec0 osem0 := by decide

theorem scoped0_eq (c : Dev nD) : (Pipeline.scopedRest spec0 c : sProp 𝕄)
    = iprop(((∃ d, owns (c : Thread nD τ) (Memref.whole cc0_scratch0 : Memref sig .tc .vmem S8192x64 .f32) fullShare d) ∗ (∃ d, owns (c : Thread nD τ) (Memref.whole cc0_scratch1 : Memref sig .tc .vmem S32x8192 .f32) fullShare d) ∗ (∃ d, owns (c : Thread nD τ) (Memref.whole cc0_scratch2 : Memref sig .tc .vmem S8192x64 .f32) fullShare d))
      ∗ Pipeline.scopedRestBut spec0 c [cc0_scratch0, cc0_scratch1, cc0_scratch2]) := by
  rw [Pipeline.scopedRest_split_of_list spec0 c [cc0_scratch0, cc0_scratch1, cc0_scratch2] (by decide) (by decide)]
  simp only [owns_whole]
  rfl
theorem sems0_eq (c : Dev nD) : (Pipeline.ownSems0 osem0 c : sProp 𝕄) = iprop(semVal ((c : Thread nD τ), SemLoc.dma 13) 0) := by
  rw [Pipeline.ownSems0_eq_of_list c osem0 [0] (by decide) (by decide)]; rfl
theorem operand0_eq (c : Dev nD) :
    ((bigSep {main_arg0} fun b => ((c.tc : Thread nD τ).loc b) ↦{fullShare} V c (Proc.devRef .tc b)) : sProp 𝕄) = hbm0 c (feat0 V c) := by
  rw [BI.bigSep_eq_bigSepL_of_eq [main_arg0] (by decide) (by decide)]; rfl

/-- The entry of the region: the scratch memories at anything, with all that every point keeps. -/
theorem enter0 (c : Dev nD) :
    (iprop(Pipeline.scopedRest spec0 c ∗ (∃ r, prngReg c r) ∗ Pipeline.ownSems0 osem0 c
      ∗ (bigSep {main_arg0} fun b => ((c.tc : Thread nD τ).loc b) ↦{fullShare} V c (Proc.devRef .tc b)) ∗ Transfers.MayWaits (c : Thread nD τ) (default : Unit) 0) : sProp 𝕄) ⊢ inv0 V c 0 := by
  rw [scoped0_eq, sems0_eq, operand0_eq]
  unfold inv0 kept0
  iintro ⟨⟨⟨HS0, HS1, HS2⟩, Hr⟩, Hg, Hq0, Hh0, -⟩
  isplitl [HS0]; · iexact HS0
  isplitl [HS1]; · iexact HS1
  isplitl [HS2]; · iexact HS2
  isplitl [Hr]; · iexact Hr
  isplitl [Hg]; · iexact Hg
  isplitl [Hq0]; · iexact Hq0
  iexact Hh0

/-- The exit: the scratch memories' contents are forgotten. -/
theorem leave0 (c : Dev nD) (n : ℕ) :
    inv0 V c (n + 1) ⊢ (iprop(Pipeline.scopedRest spec0 c ∗ (∃ r, prngReg c r) ∗ Pipeline.ownSems0 osem0 c
      ∗ (bigSep {main_arg0} fun b => ((c.tc : Thread nD τ).loc b) ↦{fullShare} V c (Proc.devRef .tc b))) : sProp 𝕄) := by
  rw [scoped0_eq, sems0_eq, operand0_eq]
  unfold inv0 kept0
  iintro ⟨HS0, HS1, HS2, Hr, Hg, Hq0, Hh0⟩
  isplitl [HS0 HS1 HS2 Hr]
  · isplitl [HS0 HS1 HS2]
    · isplitl [HS0]; · iexists _; iexact HS0
      isplitl [HS1]; · iexists _; iexact HS1
      iexists _; iexact HS2
    iexact Hr
  isplitl [Hg]; · iexact Hg
  isplitl [Hq0]; · iexact Hq0
  iexact Hh0

end Cert.KernelIdeal.Attn

end
-- ==== Proof.KI.Step1.lean ====
/-
  The second attention call, one grid point at a time.

  A grid point of the second call works on 512 rows, whose mask it unpacks from 32 rows of words. The first point also
  copies all node features into scratch memory and computes from them the projected features and the transposed keys,
  which later points reuse. `step1_first` and `step1_next` say what a point leaves in each buffer, as the payloads of the printed body.
-/
module

public import proofs.«01_k».proof.Proof.KI.Step0
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The body's test whether this is the first point, from the grid coordinate. -/
abbrev isFirst1 (i : grid1.Coords) : Prop :=
  (Scalar.cmpi .ne (Scalar.extui (Scalar.cmpi .eq (BitVec.ofNat 32 (i 0).val) 0#32)) 0#32) = 1#1

/-- The test holds at point 0 alone. -/
theorem isFirst1_iff (t : Fin cfg1.N) : isFirst1 (grid1.coords t) ↔ t.val = 0 := by
  have ht : t.val < 16 := Nat.lt_of_lt_of_eq t.isLt N_1
  have e0 : (grid1.coords t 0).val = t.val / 1 % 16 := Pipeline.Grid.coords_val t 0 (by decide) rfl
  simp only [isFirst1, e0]
  word_cmp

/-- The rows of the node features that point `i` works on. -/
abbrev rows1 (i : grid1.Coords) (X : Vec F S8192x64 .f32) : Vec F S512x64 .f32 :=
  View.ld X (Rect.unit (s := S8192x64) (k1_off1 i) S512x64.size (k1_off1_inb i))

/-- The exponentials of the masked scores of point `i`, less each row's greatest. -/
abbrev exps1 (i : grid1.Coords) (B : Vec F S32x8192 .f32) (Wq : Vec F S64x32 .f32)
    (X : Vec F S8192x64 .f32) (K : Vec F S32x8192 .f32) : FVec F S512x8192 .f32 :=
  k1_pay5 (rows1 i X) Wq K B

/-- The operand in high-bandwidth memory, held whole. -/
abbrev hbm1 (c : Dev nD) (X : Buf (Elt F) ((c : Thread nD τ).loc main_v1_1)) : sProp 𝕄 :=
  (Memref.whole main_v1_1 : Memref sig .tc .hbm S8192x64 .f32).view.loc (c : Thread nD τ) ↦{fullShare} X

/-- The operand in high-bandwidth memory, read whole, is its contents. -/
theorem read_hbm1 (c : Dev nD) (X : Buf (Elt F) ((c : Thread nD τ).loc main_v1_1)) :
    View.read (Elt F) (Memref.whole main_v1_1 : Memref sig .tc .hbm S8192x64 .f32).view X = X := rfl

set_option maxHeartbeats 1000000 in
/-- The first point: the features are copied, the projections computed, then the point's own rows are done. -/
theorem step1_first (c : Dev nD) (i : grid1.Coords) (arg1 : Memref sig .tc .vmem S32x8192 .f32) (harg1 : arg1.IsWhole) (arg3 : Memref sig .tc .vmem S64x64 .f32) (harg3 : arg3.IsWhole) (arg4 : Memref sig .tc .vmem S64x32 .f32) (harg4 : arg4.IsWhole) (arg5 : Memref sig .tc .vmem S64x32 .f32) (harg5 : arg5.IsWhole) (arg6 : Memref sig .tc .vmem S1x64 .f32) (harg6 : arg6.IsWhole) (arg7 : Memref sig .tc .vmem S512x8192 .f32) (harg7 : arg7.IsWhole) (arg8 : Memref sig .tc .vmem S512x64 .f32) (harg8 : arg8.IsWhole) (arg9 : Memref sig .tc .vmem S8192x64 .f32) (harg9 : arg9.IsWhole) (arg10 : Memref sig .tc .vmem S32x8192 .f32) (harg10 : arg10.IsWhole) (arg11 : Memref sig .tc .vmem S8192x64 .f32) (harg11 : arg11.IsWhole) (hc0 : isFirst1 i)
    (B : Vec F S32x8192 .f32) (Wh : Vec F S64x64 .f32) (Wq : Vec F S64x32 .f32) (Wk : Vec F S64x32 .f32) (b : Vec F S1x64 .f32)
    (X : Buf (Elt F) ((c : Thread nD τ).loc main_v1_1)) (W : Waits sig Unit) (K : PUnit → sProp 𝕄) :
    iprop(owns (c : Thread nD τ) arg1 fullShare B ∗ owns (c : Thread nD τ) arg3 fullShare Wh ∗ owns (c : Thread nD τ) arg4 fullShare Wq ∗ owns (c : Thread nD τ) arg5 fullShare Wk ∗ owns (c : Thread nD τ) arg6 fullShare b ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ semVal ((c : Thread nD τ), SemLoc.dma 24) 0 ∗ hbm1 c X ∗ owes (c : Thread nD τ) 0 W
        ∗ (iprop(owns (c : Thread nD τ) arg1 fullShare B
            ∗ owns (c : Thread nD τ) arg3 fullShare Wh
            ∗ owns (c : Thread nD τ) arg4 fullShare Wq
            ∗ owns (c : Thread nD τ) arg5 fullShare Wk
            ∗ owns (c : Thread nD τ) arg6 fullShare b
            ∗ owns (c : Thread nD τ) arg7 fullShare (k1_pay1 (exps1 i B Wq X (k1_pay4 X Wk)))
            ∗ owns (c : Thread nD τ) arg8 fullShare (k1_pay2 (rows1 i X) (k1_pay3 X Wh b) (exps1 i B Wq X (k1_pay4 X Wk)))
            ∗ owns (c : Thread nD τ) arg9 fullShare X
            ∗ owns (c : Thread nD τ) arg10 fullShare (k1_pay4 X Wk)
            ∗ owns (c : Thread nD τ) arg11 fullShare (k1_pay3 X Wh b)
            ∗ semVal ((c : Thread nD τ), SemLoc.dma 24) 0 ∗ hbm1 c X ∗ (∃ W', owes (c : Thread nD τ) 0 W')) -∗ K ⟨⟩))
      ⊢ wp frame (wpE (defs₀ (F := F)) Variants.none c none) Set.univ (cc1__att2_kernel i arg1 harg1 (Memref.whole main_v1_1) (Memref.isWhole_whole _) arg3 harg3 arg4 harg4 arg5 harg5 arg6 harg6 arg7 harg7 arg8 harg8 arg9 harg9 arg10 harg10 arg11 harg11 cc1_scratch3) K := by
  simp only [cc1__att2_kernel_eq_skeleton]; unfold cc1__att2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hq0, Hh0, HW, Hk⟩
  obtain rfl := harg1.eq_unread hf0; obtain rfl := harg3.eq_unread hf1; obtain rfl := harg4.eq_unread hf2; obtain rfl := harg5.eq_unread hf3; obtain rfl := harg6.eq_unread hf4
  sl_exec (disch := first | sl_exact hc0)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    refine (View.read_writes_full _ _ _ _ _).trans ?_
    simp only [View.readAt_eq_ld, readCov_whole, View.read_writes_whole, readCov_full2, read_hbm1 c X, same_apply, ld_full2, harg1.read_unread, harg3.read_unread, harg4.read_unread, harg5.read_unread, harg6.read_unread]
    try rfl
  isplitl [H6]
  · iexists _; isplitr
    swap; · iexact H6
    ipureintro
    sl_unfold_words
    refine (View.read_writes_full _ _ _ _ _).trans ?_
    simp only [View.readAt_eq_ld, readCov_whole, View.read_writes_whole, readCov_full2, read_hbm1 c X, same_apply, ld_full2, harg1.read_unread, harg3.read_unread, harg4.read_unread, harg5.read_unread, harg6.read_unread]
    try rfl
  isplitl [HS0]
  · iexists _; isplitr
    swap; · iexact HS0
    ipureintro
    sl_unfold_words
    exact View.read_writes_whole _ _ _
  isplitl [HS1]
  · iexists _; isplitr
    swap; · iexact HS1
    ipureintro
    sl_unfold_words
    refine (View.read_writes_full _ _ _ _ _).trans ?_
    simp only [View.readAt_eq_ld, readCov_whole, View.read_writes_whole, readCov_full2, read_hbm1 c X, same_apply, ld_full2, harg1.read_unread, harg3.read_unread, harg4.read_unread, harg5.read_unread, harg6.read_unread]
    try rfl
  isplitl [HS2]
  · iexists _; isplitr
    swap; · iexact HS2
    ipureintro
    sl_unfold_words
    refine (View.read_writes_full _ _ _ _ _).trans ?_
    simp only [View.readAt_eq_ld, readCov_whole, View.read_writes_whole, readCov_full2, read_hbm1 c X, same_apply, ld_full2, harg1.read_unread, harg3.read_unread, harg4.read_unread, harg5.read_unread, harg6.read_unread]
    try rfl
  isplitl [Hq0]; · iexact Hq0
  isplitl [Hh0]; · iexact Hh0
  iexists _; iexact HW

set_option maxHeartbeats 1000000 in
/-- A later point: the scratch memories are read, and the point's own rows are done. -/
theorem step1_next (c : Dev nD) (i : grid1.Coords) (arg1 : Memref sig .tc .vmem S32x8192 .f32) (harg1 : arg1.IsWhole) (arg3 : Memref sig .tc .vmem S64x64 .f32) (harg3 : arg3.IsWhole) (arg4 : Memref sig .tc .vmem S64x32 .f32) (harg4 : arg4.IsWhole) (arg5 : Memref sig .tc .vmem S64x32 .f32) (harg5 : arg5.IsWhole) (arg6 : Memref sig .tc .vmem S1x64 .f32) (harg6 : arg6.IsWhole) (arg7 : Memref sig .tc .vmem S512x8192 .f32) (harg7 : arg7.IsWhole) (arg8 : Memref sig .tc .vmem S512x64 .f32) (harg8 : arg8.IsWhole) (arg9 : Memref sig .tc .vmem S8192x64 .f32) (harg9 : arg9.IsWhole) (arg10 : Memref sig .tc .vmem S32x8192 .f32) (harg10 : arg10.IsWhole) (arg11 : Memref sig .tc .vmem S8192x64 .f32) (harg11 : arg11.IsWhole) (hc0 : ¬ isFirst1 i)
    (B : Vec F S32x8192 .f32) (Wh : Vec F S64x64 .f32) (Wq : Vec F S64x32 .f32) (Wk : Vec F S64x32 .f32) (b : Vec F S1x64 .f32)
    (X : Buf (Elt F) ((c : Thread nD τ).loc main_v1_1)) (Y : Vec F S8192x64 .f32) (Kt : Vec F S32x8192 .f32) (H : Vec F S8192x64 .f32) (W : Waits sig Unit) (K : PUnit → sProp 𝕄) :
    iprop(owns (c : Thread nD τ) arg1 fullShare B ∗ owns (c : Thread nD τ) arg3 fullShare Wh ∗ owns (c : Thread nD τ) arg4 fullShare Wq ∗ owns (c : Thread nD τ) arg5 fullShare Wk ∗ owns (c : Thread nD τ) arg6 fullShare b ∗ (∃ d, owns (c : Thread nD τ) arg7 fullShare d) ∗ (∃ d, owns (c : Thread nD τ) arg8 fullShare d) ∗ owns (c : Thread nD τ) arg9 fullShare Y ∗ owns (c : Thread nD τ) arg10 fullShare Kt ∗ owns (c : Thread nD τ) arg11 fullShare H ∗ semVal ((c : Thread nD τ), SemLoc.dma 24) 0 ∗ hbm1 c X ∗ owes (c : Thread nD τ) 0 W
        ∗ (iprop(owns (c : Thread nD τ) arg1 fullShare B
            ∗ owns (c : Thread nD τ) arg3 fullShare Wh
            ∗ owns (c : Thread nD τ) arg4 fullShare Wq
            ∗ owns (c : Thread nD τ) arg5 fullShare Wk
            ∗ owns (c : Thread nD τ) arg6 fullShare b
            ∗ owns (c : Thread nD τ) arg7 fullShare (k1_pay1 (exps1 i B Wq Y Kt))
            ∗ owns (c : Thread nD τ) arg8 fullShare (k1_pay2 (rows1 i Y) H (exps1 i B Wq Y Kt))
            ∗ owns (c : Thread nD τ) arg9 fullShare Y
            ∗ owns (c : Thread nD τ) arg10 fullShare Kt
            ∗ owns (c : Thread nD τ) arg11 fullShare H
            ∗ semVal ((c : Thread nD τ), SemLoc.dma 24) 0 ∗ hbm1 c X ∗ (∃ W', owes (c : Thread nD τ) 0 W')) -∗ K ⟨⟩))
      ⊢ wp frame (wpE (defs₀ (F := F)) Variants.none c none) Set.univ (cc1__att2_kernel i arg1 harg1 (Memref.whole main_v1_1) (Memref.isWhole_whole _) arg3 harg3 arg4 harg4 arg5 harg5 arg6 harg6 arg7 harg7 arg8 harg8 arg9 harg9 arg10 harg10 arg11 harg11 cc1_scratch3) K := by
  simp only [cc1__att2_kernel_eq_skeleton]; unfold cc1__att2_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hs0, HS0⟩, ⟨%fs1, %hs1, HS1⟩, ⟨%fs2, %hs2, HS2⟩, Hq0, Hh0, HW, Hk⟩
  obtain rfl := harg1.eq_unread hf0; obtain rfl := harg3.eq_unread hf1; obtain rfl := harg4.eq_unread hf2; obtain rfl := harg5.eq_unread hf3; obtain rfl := harg6.eq_unread hf4; obtain rfl := harg9.eq_unread hs0; obtain rfl := harg10.eq_unread hs1; obtain rfl := harg11.eq_unread hs2
  sl_exec (disch := first | sl_exact hc0)
  sl_step
  iapply Hk
  isplitl [H0]
  · iexists _; isplitr; · ipureintro; exact harg1.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words
    refine (View.read_writes_full _ _ _ _ _).trans ?_
    simp only [View.readAt_eq_ld, ld_full2, harg1.read_unread, harg3.read_unread, harg4.read_unread, harg5.read_unread, harg6.read_unread, harg9.read_unread, harg10.read_unread, harg11.read_unread]
    try rfl
  isplitl [H6]
  · iexists _; isplitr
    swap; · iexact H6
    ipureintro
    sl_unfold_words
    refine (View.read_writes_full _ _ _ _ _).trans ?_
    simp only [View.readAt_eq_ld, ld_full2, harg1.read_unread, harg3.read_unread, harg4.read_unread, harg5.read_unread, harg6.read_unread, harg9.read_unread, harg10.read_unread, harg11.read_unread]
    try rfl
  isplitl [HS0]
  · iexists _; isplitr; · ipureintro; exact harg9.read_unread _
    iexact HS0
  isplitl [HS1]
  · iexists _; isplitr; · ipureintro; exact harg10.read_unread _
    iexact HS1
  isplitl [HS2]
  · iexists _; isplitr; · ipureintro; exact harg11.read_unread _
    iexact HS2
  isplitl [Hq0]; · iexact Hq0
  isplitl [Hh0]; · iexact Hh0
  iexists _; iexact HW

end Cert.KernelIdeal.Attn

end
-- ==== Proof.KI.Region1.lean ====
/-
  The second attention call as a kernel region, entered at any contents `V` of the device's buffers.

  `dat1` states what the region leaves in its windows' staging buffers at each grid point; `seg1` is the region's record
  for the run of the whole program.
-/
module

public import proofs.«01_k».proof.Proof.KI.Step1
public import Idealize.ShloMosaic.Lib.Pipeline.RegionArraysD
public import proofs.«01_k».proof.Proof.Gen.KernelIdeal.Regions

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : Dev nD → Valuation τ sig (Elt F))

/-- What buffer `b` of device `c` holds when the region is entered. -/
abbrev at1 (c : Dev nD) (b : Ref sig .tc) : Buf (Elt F) ((c : Thread nD τ).loc b) := V c (Proc.devRef .tc b)

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (at1 V c (Pipeline.arrRef spec1 w))

/-- The first grid point. -/
def first1 : Fin cfg1.N := ⟨0, Nat.lt_of_lt_of_eq (by decide : 0 < 16) N_1.symm⟩

/-- The node features, as the region finds them. -/
abbrev feat1 (c : Dev nD) : Vec F S8192x64 .f32 := at1 V c main_v1_1
/-- The transposed keys of all nodes. -/
def keys1 (c : Dev nD) : Vec F S32x8192 .f32 := k1_pay4 (feat1 V c) (blk1 V c 3 first1)
/-- The projected features of all nodes. -/
def proj1 (c : Dev nD) : Vec F S8192x64 .f32 := k1_pay3 (feat1 V c) (blk1 V c 1 first1) (blk1 V c 4 first1)
/-- The attention weights of the rows of point `t`. -/
def weights1 (c : Dev nD) (t : Fin cfg1.N) : Vec F S512x8192 .f32 :=
  k1_pay1 (exps1 (grid1.coords t) (blk1 V c 0 t) (blk1 V c 2 t) (feat1 V c) (keys1 V c))
/-- The new features of the rows of point `t`. -/
def rowsOut1 (c : Dev nD) (t : Fin cfg1.N) : Vec F S512x64 .f32 :=
  k1_pay2 (rows1 (grid1.coords t) (feat1 V c)) (proj1 V c) (exps1 (grid1.coords t) (blk1 V c 0 t) (blk1 V c 2 t) (feat1 V c) (keys1 V c))

/-- What every point keeps: the other scoped buffers, the generator register, the copy's semaphore and the operand. -/
def kept1 (c : Dev nD) : sProp 𝕄 :=
  iprop(Pipeline.scopedRestBut spec1 c [cc1_scratch0, cc1_scratch1, cc1_scratch2] ∗ (∃ r, prngReg c r) ∗ semVal ((c : Thread nD τ), SemLoc.dma 24) 0 ∗ hbm1 c (feat1 V c))

/-- The scratch memories before point `n`: at anything before the first, then the features, the keys and the projections. -/
def inv1 (c : Dev nD) : ℕ → sProp 𝕄
  | 0 => iprop((∃ d, owns (c : Thread nD τ) (Memref.whole cc1_scratch0 : Memref sig .tc .vmem S8192x64 .f32) fullShare d) ∗ (∃ d, owns (c : Thread nD τ) (Memref.whole cc1_scratch1 : Memref sig .tc .vmem S32x8192 .f32) fullShare d) ∗ (∃ d, owns (c : Thread nD τ) (Memref.whole cc1_scratch2 : Memref sig .tc .vmem S8192x64 .f32) fullShare d) ∗ kept1 V c)
  | _ + 1 => iprop(owns (c : Thread nD τ) (Memref.whole cc1_scratch0 : Memref sig .tc .vmem S8192x64 .f32) fullShare (feat1 V c) ∗ owns (c : Thread nD τ) (Memref.whole cc1_scratch1 : Memref sig .tc .vmem S32x8192 .f32) fullShare (keys1 V c) ∗ owns (c : Thread nD τ) (Memref.whole cc1_scratch2 : Memref sig .tc .vmem S8192x64 .f32) fullShare (proj1 V c) ∗ kept1 V c)

/-- The region's proof data: arrays as found, an input's buffer at its block, an output's at what the point computes. -/
def dat1 (c : Dev nD) : Dat τ (Elt F) Unit ℕ (Pipeline.UD sig nD τ) ℕ cfg1 c where
  A w := at1 V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => weights1 V c t
    | ⟨6, _⟩ => rowsOut1 V c t
  Φ t := inv1 V c t.val
  q _ := fullShare
  owed _ := 0

theorem dat1_A (c : Dev nD) (w : Fin cfg1.W) : (dat1 V c).A w = at1 V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = weights1 V c t := by dsimp only [dat1]
theorem after1_6 (c : Dev nD) (t : Fin cfg1.N) : (dat1 V c).after 6 t = rowsOut1 V c t := by dsimp only [dat1]

/-! Every point finds an input's block in its staging buffer, whether or not it was fetched there. -/

theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [dat1_A]; try rfl) t d).trans
    (by unfold Dat.fetched Dat.blockOf blk1; rw [dat1_A]; try rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [dat1_A]; try rfl) t d).trans
    (by unfold Dat.fetched Dat.blockOf blk1; rw [dat1_A]; try rfl)

/-- What the body is called with at point `t`. -/
def pre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0) : Memref sig .tc .vmem S32x8192 .f32) fullShare ((dat1 V c).before 0 t d))
    ∗ (∃ d, owns (c : Thread nD τ) (win1_1.stage (cfg1.slots t 1) : Memref sig .tc .vmem S64x64 .f32) fullShare ((dat1 V c).before 1 t d))
    ∗ (∃ d, owns (c : Thread nD τ) (win1_2.stage (cfg1.slots t 2) : Memref sig .tc .vmem S64x32 .f32) fullShare ((dat1 V c).before 2 t d))
    ∗ (∃ d, owns (c : Thread nD τ) (win1_3.stage (cfg1.slots t 3) : Memref sig .tc .vmem S64x32 .f32) fullShare ((dat1 V c).before 3 t d))
    ∗ (∃ d, owns (c : Thread nD τ) (win1_4.stage (cfg1.slots t 4) : Memref sig .tc .vmem S1x64 .f32) fullShare ((dat1 V c).before 4 t d))
    ∗ (∃ d, owns (c : Thread nD τ) (win1_5.stage (cfg1.slots t 5) : Memref sig .tc .vmem S512x8192 .f32) fullShare ((dat1 V c).before 5 t d))
    ∗ (∃ d, owns (c : Thread nD τ) (win1_6.stage (cfg1.slots t 6) : Memref sig .tc .vmem S512x64 .f32) fullShare ((dat1 V c).before 6 t d)))

/-- What it returns. -/
def post1 (c : Dev nD) (t : Fin cfg1.N) : sProp 𝕄 :=
  iprop((dat1 V c).Φ t.succ ∗ (dat1 V c).owesAt () t.succ
    ∗ owns (c : Thread nD τ) (win1_0.stage (cfg1.slots t 0) : Memref sig .tc .vmem S32x8192 .f32) fullShare ((dat1 V c).after 0 t)
    ∗ owns (c : Thread nD τ) (win1_1.stage (cfg1.slots t 1) : Memref sig .tc .vmem S64x64 .f32) fullShare ((dat1 V c).after 1 t)
    ∗ owns (c : Thread nD τ) (win1_2.stage (cfg1.slots t 2) : Memref sig .tc .vmem S64x32 .f32) fullShare ((dat1 V c).after 2 t)
    ∗ owns (c : Thread nD τ) (win1_3.stage (cfg1.slots t 3) : Memref sig .tc .vmem S64x32 .f32) fullShare ((dat1 V c).after 3 t)
    ∗ owns (c : Thread nD τ) (win1_4.stage (cfg1.slots t 4) : Memref sig .tc .vmem S1x64 .f32) fullShare ((dat1 V c).after 4 t)
    ∗ owns (c : Thread nD τ) (win1_5.stage (cfg1.slots t 5) : Memref sig .tc .vmem S512x8192 .f32) fullShare ((dat1 V c).after 5 t)
    ∗ owns (c : Thread nD τ) (win1_6.stage (cfg1.slots t 6) : Memref sig .tc .vmem S512x64 .f32) fullShare ((dat1 V c).after 6 t))

set_option maxHeartbeats 2000000 in
/-- The body at any point. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4]
  rw [after1_0, after1_1, after1_2, after1_3, after1_4, after1_5, after1_6]
  rw [show (dat1 V c).Φ t.castSucc = inv1 V c t.val from rfl, show (dat1 V c).Φ t.succ = inv1 V c (t.val + 1) from rfl]
  unfold Dat.owesAt Pipeline.owesWithin
  rw [show (dat1 V c).owed t.castSucc = 0 from rfl, show (dat1 V c).owed t.succ = 0 from rfl]
  by_cases hz : t.val = 0
  · obtain rfl : t = first1 := Fin.ext hz
    rw [show inv1 V c first1.val = inv1 V c 0 from rfl]; unfold inv1 kept1
    iintro ⟨⟨HS0, HS1, HS2, Hr, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (step1_first c (grid1.coords first1) _ _ _ _ _ _ _ _ _ _ _ _ _ _ _ _ _ _ _ _ ((isFirst1_iff first1).mpr rfl) (blk1 V c 0 first1) (blk1 V c 1 first1) (blk1 V c 2 first1) (blk1 V c 3 first1) (blk1 V c 4 first1) (feat1 V c) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, HS0, HS1, HS2, Hq0, Hh0, ⟨%W', HW'⟩⟩
    isplitl [HS0 HS1 HS2 Hr Hg Hq0 Hh0]
    · isplitl [HS0]; · iexact HS0
      isplitl [HS1]; · iexact HS1
      isplitl [HS2]; · iexact HS2
      isplitl [Hr]; · iexact Hr
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ := Nat.exists_eq_succ_of_ne_zero hz
    rw [hn]; unfold inv1 kept1
    iintro ⟨⟨HS0, HS1, HS2, Hr, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
    iapply (step1_next c (grid1.coords t) _ _ _ _ _ _ _ _ _ _ _ _ _ _ _ _ _ _ _ _ (fun h => hz ((isFirst1_iff t).mp h)) (blk1 V c 0 t) (blk1 V c 1 t) (blk1 V c 2 t) (blk1 V c 3 t) (blk1 V c 4 t) (feat1 V c) (feat1 V c) (keys1 V c) (proj1 V c) W _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    isplitl [HS2]; · iexact HS2
    isplitl [Hq0]; · iexact Hq0
    isplitl [Hh0]; · iexact Hh0
    isplitl [HW]; · iexact HW
    iintro ⟨H0, H1, H2, H3, H4, H5, H6, HS0, HS1, HS2, Hq0, Hh0, ⟨%W', HW'⟩⟩
    isplitl [HS0 HS1 HS2 Hr Hg Hq0 Hh0]
    · isplitl [HS0]; · iexact HS0
      isplitl [HS1]; · iexact HS1
      isplitl [HS2]; · iexact HS2
      isplitl [Hr]; · iexact Hr
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    iexact H6

/-- The region's body obligation, at every point. -/
theorem obligation1 (c : Dev nD) : BodyObligation (dat1 V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  exact triple_restated (body1 V c t) rfl .rfl fun _ => .rfl

/-- The copy's own semaphore. -/
abbrev osem1 : Fin 1 → SemLoc sig := fun j => (![SemLoc.dma 24] : Fin 1 → SemLoc sig) j
theorem osem1_facts : Pipeline.OwnSemFacts spec1 osem1 := by decide

theorem scoped1_eq (c : Dev nD) : (Pipeline.scopedRest spec1 c : sProp 𝕄)
    = iprop(((∃ d, owns (c : Thread nD τ) (Memref.whole cc1_scratch0 : Memref sig .tc .vmem S8192x64 .f32) fullShare d) ∗ (∃ d, owns (c : Thread nD τ) (Memref.whole cc1_scratch1 : Memref sig .tc .vmem S32x8192 .f32) fullShare d) ∗ (∃ d, owns (c : Thread nD τ) (Memref.whole cc1_scratch2 : Memref sig .tc .vmem S8192x64 .f32) fullShare d))
      ∗ Pipeline.scopedRestBut spec1 c [cc1_scratch0, cc1_scratch1, cc1_scratch2]) := by
  rw [Pipeline.scopedRest_split_of_list spec1 c [cc1_scratch0, cc1_scratch1, cc1_scratch2] (by decide) (by decide)]
  simp only [owns_whole]
  rfl
theorem sems1_eq (c : Dev nD) : (Pipeline.ownSems0 osem1 c : sProp 𝕄) = iprop(semVal ((c : Thread nD τ), SemLoc.dma 24) 0) := by
  rw [Pipeline.ownSems0_eq_of_list c osem1 [0] (by decide) (by decide)]; rfl
theorem operand1_eq (c : Dev nD) :
    ((bigSep {main_v1_1} fun b => ((c.tc : Thread nD τ).loc b) ↦{fullShare} V c (Proc.devRef .tc b)) : sProp 𝕄) = hbm1 c (feat1 V c) := by
  rw [BI.bigSep_eq_bigSepL_of_eq [main_v1_1] (by decide) (by decide)]; rfl

/-- The entry of the region: the scratch memories at anything, with all that every point keeps. -/
theorem enter1 (c : Dev nD) :
    (iprop(Pipeline.scopedRest spec1 c ∗ (∃ r, prngReg c r) ∗ Pipeline.ownSems0 osem1 c
      ∗ (bigSep {main_v1_1} fun b => ((c.tc : Thread nD τ).loc b) ↦{fullShare} V c (Proc.devRef .tc b)) ∗ Transfers.MayWaits (c : Thread nD τ) (default : Unit) 0) : sProp 𝕄) ⊢ inv1 V c 0 := by
  rw [scoped1_eq, sems1_eq, operand1_eq]
  unfold inv1 kept1
  iintro ⟨⟨⟨HS0, HS1, HS2⟩, Hr⟩, Hg, Hq0, Hh0, -⟩
  isplitl [HS0]; · iexact HS0
  isplitl [HS1]; · iexact HS1
  isplitl [HS2]; · iexact HS2
  isplitl [Hr]; · iexact Hr
  isplitl [Hg]; · iexact Hg
  isplitl [Hq0]; · iexact Hq0
  iexact Hh0

/-- The exit: the scratch memories' contents are forgotten. -/
theorem leave1 (c : Dev nD) (n : ℕ) :
    inv1 V c (n + 1) ⊢ (iprop(Pipeline.scopedRest spec1 c ∗ (∃ r, prngReg c r) ∗ Pipeline.ownSems0 osem1 c
      ∗ (bigSep {main_v1_1} fun b => ((c.tc : Thread nD τ).loc b) ↦{fullShare} V c (Proc.devRef .tc b))) : sProp 𝕄) := by
  rw [scoped1_eq, sems1_eq, operand1_eq]
  unfold inv1 kept1
  iintro ⟨HS0, HS1, HS2, Hr, Hg, Hq0, Hh0⟩
  isplitl [HS0 HS1 HS2 Hr]
  · isplitl [HS0 HS1 HS2]
    · isplitl [HS0]; · iexists _; iexact HS0
      isplitl [HS1]; · iexists _; iexact HS1
      iexists _; iexact HS2
    iexact Hr
  isplitl [Hg]; · iexact Hg
  isplitl [Hq0]; · iexact Hq0
  iexact Hh0

end Cert.KernelIdeal.Attn

end
-- ==== Proof.KI.Run.lean ====
/-
  The run of the whole program: the two regions between the host operations.

  `stage1` … `stage4` are a device's buffers after each item of the program. `run_main`: from any memory every execution
  ends, with every semaphore at zero and each buffer of the launch as `stage4` says. `unchanged` reads the arguments off it.
-/
module

public import proofs.«01_k».proof.Proof.KI.Region0
public import proofs.«01_k».proof.Proof.KI.Region1

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ)

/-- A device's buffers when the first region is entered: after the host operations ahead of it. -/
def stage1 (c : Dev nD) : Valuation τ sig (Elt F) := V1 m c
/-- After the first region: its three results are what its proof data computes. -/
def stage2 (c : Dev nD) : Valuation τ sig (Elt F) :=
  Function.update (Function.update (Function.update (stage1 m c)
    (Proc.devRef .tc main_v1_0) ((dat0 (stage1 m) c).arrAt 6 cfg0.N)) (Proc.devRef .tc main_v1_1) ((dat0 (stage1 m) c).arrAt 7 cfg0.N))
    (Proc.devRef .tc main_v1_2) ((dat0 (stage1 m) c).arrAt 8 cfg0.N)
/-- When the second region is entered: after the host operation between the two. -/
def stage3 (c : Dev nD) : Valuation τ sig (Elt F) := StableHlo.after hostOps1 (stage2 m c)
/-- After the second region. -/
def stage4 (c : Dev nD) : Valuation τ sig (Elt F) :=
  Function.update (Function.update (stage3 m c)
    (Proc.devRef .tc main_v3_0) ((dat1 (stage3 m) c).arrAt 5 cfg1.N)) (Proc.devRef .tc main_v3_1) ((dat1 (stage3 m) c).arrAt 6 cfg1.N)

/-- The contents the regions leave, as the program's items ask for them. -/
def left : Outs (F := F) := fun j r c => if j = 2 then stage2 m c (Proc.devRef .tc r) else stage4 m c (Proc.devRef .tc r)

theorem stage2_v1_0 (c : Dev nD) : stage2 m c (Proc.devRef .tc main_v1_0) = (dat0 (stage1 m) c).arrAt 6 cfg0.N := by
  unfold stage2
  rw [Function.update_of_ne (StableHlo.devRef_ne_of_ne (by decide)), Function.update_of_ne (StableHlo.devRef_ne_of_ne (by decide)), Function.update_self]
theorem stage2_v1_1 (c : Dev nD) : stage2 m c (Proc.devRef .tc main_v1_1) = (dat0 (stage1 m) c).arrAt 7 cfg0.N := by
  unfold stage2
  rw [Function.update_of_ne (StableHlo.devRef_ne_of_ne (by decide)), Function.update_self]
theorem stage2_v1_2 (c : Dev nD) : stage2 m c (Proc.devRef .tc main_v1_2) = (dat0 (stage1 m) c).arrAt 8 cfg0.N := by
  unfold stage2
  rw [Function.update_self]
/-- The first region changes no other buffer. -/
theorem stage2_of (c : Dev nD) (b : DevRef τ sig) (h0 : b ≠ Proc.devRef .tc main_v1_0) (h1 : b ≠ Proc.devRef .tc main_v1_1)
    (h2 : b ≠ Proc.devRef .tc main_v1_2) : stage2 m c b = stage1 m c b := by
  unfold stage2
  rw [Function.update_of_ne h2, Function.update_of_ne h1, Function.update_of_ne h0]
theorem stage4_v3_0 (c : Dev nD) : stage4 m c (Proc.devRef .tc main_v3_0) = (dat1 (stage3 m) c).arrAt 5 cfg1.N := by
  unfold stage4
  rw [Function.update_of_ne (StableHlo.devRef_ne_of_ne (by decide)), Function.update_self]
theorem stage4_v3_1 (c : Dev nD) : stage4 m c (Proc.devRef .tc main_v3_1) = (dat1 (stage3 m) c).arrAt 6 cfg1.N := by
  unfold stage4
  rw [Function.update_self]
/-- The second region changes no other buffer. -/
theorem stage4_of (c : Dev nD) (b : DevRef τ sig) (h0 : b ≠ Proc.devRef .tc main_v3_0) (h1 : b ≠ Proc.devRef .tc main_v3_1) :
    stage4 m c b = stage3 m c b := by
  unfold stage4
  rw [Function.update_of_ne h1, Function.update_of_ne h0]

theorem V2_eq (c : Dev nD) : V2 m (left m) c = stage2 m c := by
  show Function.update (Function.update (Function.update (V1 m c) main_v1_0 (stage2 m c (Proc.devRef .tc main_v1_0))) main_v1_1 (stage2 m c (Proc.devRef .tc main_v1_1))) main_v1_2 (stage2 m c (Proc.devRef .tc main_v1_2)) = stage2 m c
  rw [stage2_v1_0, stage2_v1_1, stage2_v1_2]; rfl
theorem V3_eq (c : Dev nD) : V3 m (left m) c = stage3 m c := by
  show StableHlo.after hostOps1 (V2 m (left m) c) = _
  rw [V2_eq]; rfl
theorem V4_eq (c : Dev nD) : V4 m (left m) c = stage4 m c := by
  show Function.update (Function.update (Function.update (V3 m (left m) c) main_v3_0 (stage4 m c (Proc.devRef .tc main_v3_0))) main_v3_1 (stage4 m c (Proc.devRef .tc main_v3_1))) main_v1_1 (stage4 m c (Proc.devRef .tc main_v1_1)) = stage4 m c
  rw [V3_eq, stage4_v3_0, stage4_v3_1]
  exact Function.update_eq_self _ _

/-- The two regions' proof data, each at its own entry. -/
def pdats : (p : Fin 2) → (c : Dev nD) → Dat τ (Elt F) Unit ℕ (Pipeline.UD sig nD τ) ℕ (cfgs p) c := fun p c =>
  match p with
  | ⟨0, _⟩ => dat0 (stage1 m) c
  | ⟨1, _⟩ => dat1 (stage3 m) c

/-- Every semaphore of a TensorCore may be waited on at level 0. -/
def lev : GSem nD τ sig → Finset Unit := fun g => if g.1.2 = .tc then {()} else ∅

theorem mem_lev (c : Dev nD) (sm : SemLoc sig) : () ∈ lev ((c : Thread nD τ), sm) := by
  unfold lev; rw [if_pos rfl]; exact Finset.mem_singleton_self _

theorem cut (p : Fin 2) : Pipeline.LevelCut (pcfgs (F := F)) adm () lev (fun _ _ => (0 : ℕ)) p (fun _ => 0) (fun _ => 0) where
  hι c w s := mem_lev c _
  hιb c w s := le_refl _
  hD c g i h := absurd h (lt_irrefl _)

/-- The thread's state beside its buffers: the generator register and owing nothing. -/
def idle (c : Dev nD) : sProp 𝕄 := iprop((∃ r, prngReg c r) ∗ ∃ W, owes (c : Thread nD τ) 0 W)

/-- The other buffers of a device, beside the arrays of region 0. -/
abbrev others0 : Finset (DevRef τ sig) := Pipeline.ucRefs τ sig \ Pipeline.arrRefs spec0

theorem arr0_in (c : Dev nD) (w : Fin cfg0.W) : (dat0 (stage1 m) c).arrAt w 0 = stage1 m c (Proc.devRef .tc (Pipeline.arrRef spec0 w)) :=
  dat0_A _ c w

theorem arr0_out (c : Dev nD) (w : Fin cfg0.W) : (dat0 (stage1 m) c).arrAt w cfg0.N = stage2 m c (Proc.devRef .tc (Pipeline.arrRef spec0 w)) :=
  match w with
  | ⟨0, _⟩ => ((dat0 (stage1 m) c).arrAt_in 0 rfl _).trans ((dat0_A _ c 0).trans (stage2_of m c (Proc.devRef .tc (Pipeline.arrRef spec0 0)) (StableHlo.devRef_ne_of_ne (by decide)) (StableHlo.devRef_ne_of_ne (by decide)) (StableHlo.devRef_ne_of_ne (by decide))).symm)
  | ⟨1, _⟩ => ((dat0 (stage1 m) c).arrAt_in 1 rfl _).trans ((dat0_A _ c 1).trans (stage2_of m c (Proc.devRef .tc (Pipeline.arrRef spec0 1)) (StableHlo.devRef_ne_of_ne (by decide)) (StableHlo.devRef_ne_of_ne (by decide)) (StableHlo.devRef_ne_of_ne (by decide))).symm)
  | ⟨2, _⟩ => ((dat0 (stage1 m) c).arrAt_in 2 rfl _).trans ((dat0_A _ c 2).trans (stage2_of m c (Proc.devRef .tc (Pipeline.arrRef spec0 2)) (StableHlo.devRef_ne_of_ne (by decide)) (StableHlo.devRef_ne_of_ne (by decide)) (StableHlo.devRef_ne_of_ne (by decide))).symm)
  | ⟨3, _⟩ => ((dat0 (stage1 m) c).arrAt_in 3 rfl _).trans ((dat0_A _ c 3).trans (stage2_of m c (Proc.devRef .tc (Pipeline.arrRef spec0 3)) (StableHlo.devRef_ne_of_ne (by decide)) (StableHlo.devRef_ne_of_ne (by decide)) (StableHlo.devRef_ne_of_ne (by decide))).symm)
  | ⟨4, _⟩ => ((dat0 (stage1 m) c).arrAt_in 4 rfl _).trans ((dat0_A _ c 4).trans (stage2_of m c (Proc.devRef .tc (Pipeline.arrRef spec0 4)) (StableHlo.devRef_ne_of_ne (by decide)) (StableHlo.devRef_ne_of_ne (by decide)) (StableHlo.devRef_ne_of_ne (by decide))).symm)
  | ⟨5, _⟩ => ((dat0 (stage1 m) c).arrAt_in 5 rfl _).trans ((dat0_A _ c 5).trans (stage2_of m c (Proc.devRef .tc (Pipeline.arrRef spec0 5)) (StableHlo.devRef_ne_of_ne (by decide)) (StableHlo.devRef_ne_of_ne (by decide)) (StableHlo.devRef_ne_of_ne (by decide))).symm)
  | ⟨6, _⟩ => (stage2_v1_0 m c).symm
  | ⟨7, _⟩ => (stage2_v1_1 m c).symm
  | ⟨8, _⟩ => (stage2_v1_2 m c).symm

/-- Region 0's record. -/
def seg0 : Pipeline.RegionSeg (pcfgs (F := F)) adm (pdats m) () defs₀ Variants.none lev (fun _ _ => (0 : ℕ)) 0 :=
  Pipeline.RegionSeg.ofHeldDH (pcfgs (F := F)) adm (pdats m) () defs₀ Variants.none lev (fun _ _ => (0 : ℕ)) 0 (fun _ => 0)
    (default : Unit) osem0 osem0_facts {main_arg0} others0 (by decide) launch0.toP rfl (fun c => (obligation0 (stage1 m) c).loose)
    (fun _ _ => rfl) (fun _ => rfl) (fun c w => (dat0 (stage1 m) c).share_full (fun _ => rfl) w)
    (fun c => BI.BIBase.Entails.trans (by iintro -; iempintro) (Transfers.MayWaits.zero (c : Thread nD τ) (default : Unit)))
    (stage1 m) (stage2 m) (enter0 (stage1 m)) (fun c => leave0 (stage1 m) c (cfg0.N - 1)) (fun _ => 0) (cut 0) (fun _ => iprop(emp)) (arr0_in m) (arr0_out m)

theorem seg0_pre (c : Dev nD) :
    iprop(StableHlo.held (c : Thread nD τ) (Pipeline.ucRefs τ sig) (stage1 m c) ∗ idle c) ⊢ (seg0 m).pre c := by
  show _ ⊢ iprop(StableHlo.held (c : Thread nD τ) (Pipeline.arrRefs spec0) (stage1 m c) ∗ (∃ r, prngReg c r)
    ∗ (StableHlo.held (c : Thread nD τ) others0 (stage1 m c) ∗ emp) ∗ ∃ Wd, owes (c : Thread nD τ) 0 Wd)
  rw [StableHlo.held_sub_split (c : Thread nD τ) (Pipeline.arrRefs_sub_ucRefs spec0 (by decide)) (stage1 m c)]
  unfold idle
  iintro ⟨⟨Ha, Ho⟩, Hg, HO⟩
  isplitl [Ha]; · iexact Ha
  isplitl [Hg]; · iexact Hg
  isplitl [Ho]
  · isplitl [Ho]; · iexact Ho
    iempintro
  iexact HO

theorem seg0_post (c : Dev nD) :
    (seg0 m).post c ⊢ iprop(StableHlo.held (c : Thread nD τ) (Pipeline.ucRefs τ sig) (stage2 m c) ∗ idle c) := by
  show iprop(StableHlo.held (c : Thread nD τ) (Pipeline.arrRefs spec0) (stage2 m c) ∗ (∃ r, prngReg c r)
    ∗ (StableHlo.held (c : Thread nD τ) others0 (stage1 m c) ∗ emp) ∗ ∃ Wd, owes (c : Thread nD τ) 0 Wd) ⊢ _
  rw [StableHlo.held_sub_split (c : Thread nD τ) (Pipeline.arrRefs_sub_ucRefs spec0 (by decide)) (stage2 m c),
    StableHlo.held_congr (c : Thread nD τ) (S := others0) (V := stage1 m c) (V' := stage2 m c) (fun b hb => (stage2_of m c b (fun h => absurd (h ▸ hb) (by decide)) (fun h => absurd (h ▸ hb) (by decide)) (fun h => absurd (h ▸ hb) (by decide))).symm)]
  unfold idle
  iintro ⟨Ha, Hg, ⟨Ho, -⟩, HO⟩
  isplitl [Ha Ho]
  · isplitl [Ha]; · iexact Ha
    iexact Ho
  isplitl [Hg]; · iexact Hg
  iexact HO

/-- The other buffers of a device, beside the arrays of region 1. -/
abbrev others1 : Finset (DevRef τ sig) := Pipeline.ucRefs τ sig \ Pipeline.arrRefs spec1

theorem arr1_in (c : Dev nD) (w : Fin cfg1.W) : (dat1 (stage3 m) c).arrAt w 0 = stage3 m c (Proc.devRef .tc (Pipeline.arrRef spec1 w)) :=
  dat1_A _ c w

theorem arr1_out (c : Dev nD) (w : Fin cfg1.W) : (dat1 (stage3 m) c).arrAt w cfg1.N = stage4 m c (Proc.devRef .tc (Pipeline.arrRef spec1 w)) :=
  match w with
  | ⟨0, _⟩ => ((dat1 (stage3 m) c).arrAt_in 0 rfl _).trans ((dat1_A _ c 0).trans (stage4_of m c (Proc.devRef .tc (Pipeline.arrRef spec1 0)) (StableHlo.devRef_ne_of_ne (by decide)) (StableHlo.devRef_ne_of_ne (by decide))).symm)
  | ⟨1, _⟩ => ((dat1 (stage3 m) c).arrAt_in 1 rfl _).trans ((dat1_A _ c 1).trans (stage4_of m c (Proc.devRef .tc (Pipeline.arrRef spec1 1)) (StableHlo.devRef_ne_of_ne (by decide)) (StableHlo.devRef_ne_of_ne (by decide))).symm)
  | ⟨2, _⟩ => ((dat1 (stage3 m) c).arrAt_in 2 rfl _).trans ((dat1_A _ c 2).trans (stage4_of m c (Proc.devRef .tc (Pipeline.arrRef spec1 2)) (StableHlo.devRef_ne_of_ne (by decide)) (StableHlo.devRef_ne_of_ne (by decide))).symm)
  | ⟨3, _⟩ => ((dat1 (stage3 m) c).arrAt_in 3 rfl _).trans ((dat1_A _ c 3).trans (stage4_of m c (Proc.devRef .tc (Pipeline.arrRef spec1 3)) (StableHlo.devRef_ne_of_ne (by decide)) (StableHlo.devRef_ne_of_ne (by decide))).symm)
  | ⟨4, _⟩ => ((dat1 (stage3 m) c).arrAt_in 4 rfl _).trans ((dat1_A _ c 4).trans (stage4_of m c (Proc.devRef .tc (Pipeline.arrRef spec1 4)) (StableHlo.devRef_ne_of_ne (by decide)) (StableHlo.devRef_ne_of_ne (by decide))).symm)
  | ⟨5, _⟩ => (stage4_v3_0 m c).symm
  | ⟨6, _⟩ => (stage4_v3_1 m c).symm

/-- Region 1's record. -/
def seg1 : Pipeline.RegionSeg (pcfgs (F := F)) adm (pdats m) () defs₀ Variants.none lev (fun _ _ => (0 : ℕ)) 1 :=
  Pipeline.RegionSeg.ofHeldDH (pcfgs (F := F)) adm (pdats m) () defs₀ Variants.none lev (fun _ _ => (0 : ℕ)) 1 (fun _ => 0)
    (default : Unit) osem1 osem1_facts {main_v1_1} others1 (by decide) launch1.toP rfl (fun c => (obligation1 (stage3 m) c).loose)
    (fun _ _ => rfl) (fun _ => rfl) (fun c w => (dat1 (stage3 m) c).share_full (fun _ => rfl) w)
    (fun c => BI.BIBase.Entails.trans (by iintro -; iempintro) (Transfers.MayWaits.zero (c : Thread nD τ) (default : Unit)))
    (stage3 m) (stage4 m) (enter1 (stage3 m)) (fun c => leave1 (stage3 m) c (cfg1.N - 1)) (fun _ => 0) (cut 1) (fun _ => iprop(emp)) (arr1_in m) (arr1_out m)

theorem seg1_pre (c : Dev nD) :
    iprop(StableHlo.held (c : Thread nD τ) (Pipeline.ucRefs τ sig) (stage3 m c) ∗ idle c) ⊢ (seg1 m).pre c := by
  show _ ⊢ iprop(StableHlo.held (c : Thread nD τ) (Pipeline.arrRefs spec1) (stage3 m c) ∗ (∃ r, prngReg c r)
    ∗ (StableHlo.held (c : Thread nD τ) others1 (stage3 m c) ∗ emp) ∗ ∃ Wd, owes (c : Thread nD τ) 0 Wd)
  rw [StableHlo.held_sub_split (c : Thread nD τ) (Pipeline.arrRefs_sub_ucRefs spec1 (by decide)) (stage3 m c)]
  unfold idle
  iintro ⟨⟨Ha, Ho⟩, Hg, HO⟩
  isplitl [Ha]; · iexact Ha
  isplitl [Hg]; · iexact Hg
  isplitl [Ho]
  · isplitl [Ho]; · iexact Ho
    iempintro
  iexact HO

theorem seg1_post (c : Dev nD) :
    (seg1 m).post c ⊢ iprop(StableHlo.held (c : Thread nD τ) (Pipeline.ucRefs τ sig) (stage4 m c) ∗ idle c) := by
  show iprop(StableHlo.held (c : Thread nD τ) (Pipeline.arrRefs spec1) (stage4 m c) ∗ (∃ r, prngReg c r)
    ∗ (StableHlo.held (c : Thread nD τ) others1 (stage3 m c) ∗ emp) ∗ ∃ Wd, owes (c : Thread nD τ) 0 Wd) ⊢ _
  rw [StableHlo.held_sub_split (c : Thread nD τ) (Pipeline.arrRefs_sub_ucRefs spec1 (by decide)) (stage4 m c),
    StableHlo.held_congr (c : Thread nD τ) (S := others1) (V := stage3 m c) (V' := stage4 m c) (fun b hb => (stage4_of m c b (fun h => absurd (h ▸ hb) (by decide)) (fun h => absurd (h ▸ hb) (by decide))).symm)]
  unfold idle
  iintro ⟨Ha, Hg, ⟨Ho, -⟩, HO⟩
  isplitl [Ha Ho]
  · isplitl [Ha]; · iexact Ha
    iexact Ho
  isplitl [Hg]; · iexact Hg
  iexact HO

/-- What the launch gives one device beside its buffers makes it idle. -/
theorem idle_of (ρ : Dev nD → PrngReg) (c : Dev nD) :
    iprop(unscopedSems0 c ∗ owes (c : Thread nD τ) (0 : CellTallies nD τ sig Unit) ∅ ∗ Pipeline.launchCred (fun _ => 0) c ∗ prngReg c (ρ c) ∗ emp) ⊢ (idle c : sProp 𝕄) := by
  unfold idle
  iintro ⟨-, HO, -, Hg, -⟩
  isplitl [Hg]; · iexists _; iexact Hg
  iexists _; iexact HO

/-- What the launch gives each device beside its buffers makes it idle. -/
theorem idle_launch (ρ : Dev nD → PrngReg) :
    iprop((bigSep Finset.univ fun c : Dev nD => iprop(unscopedSems0 c ∗ owes (c : Thread nD τ) (0 : CellTallies nD τ sig Unit) ∅ ∗ Pipeline.launchCred (fun _ => 0) c ∗ prngReg c (ρ c) ∗ emp)) ∗ levAts lev (fun _ _ => (0 : ℕ)))
      ⊢ (|={Set.univ}=> bigSep Finset.univ idle : sProp 𝕄) := by
  iintro ⟨H, -⟩
  imodintro
  iapply (show (bigSep Finset.univ fun c : Dev nD => iprop(unscopedSems0 c ∗ owes (c : Thread nD τ) (0 : CellTallies nD τ sig Unit) ∅ ∗ Pipeline.launchCred (fun _ => 0) c ∗ prngReg c (ρ c) ∗ emp)) ⊢ (bigSep Finset.univ idle : sProp 𝕄) from
    bigSep_mono fun c _ => idle_of ρ c)
  iexact H

set_option backward.isDefEq.respectTransparency.types false in
/-- Every execution of the program from memory `m` ends; at its end every semaphore is at zero and every buffer of the
    launch holds what `stage4` says. -/
theorem run_main (ρ : Dev nD → PrngReg) :
    θ_run defs (onTc (τ := τ) (main (F := F))) ⟨m, fun _ => 0, ρ⟩ (fun r =>
      (∀ (c : Dev nD) (b : DevRef τ sig), b ∈ Pipeline.ucRefs τ sig → r.2.mem (c, b) = stage4 m c b) ∧ r.2.sem = fun _ => 0) := by
  refine Pipeline.θ_run_regions_kit_dev_sems (pcfgs (F := F)) adm (pdats m) () cellOf_inj embL defs₀ Variants.none lev (fun _ _ => (0 : ℕ)) m ρ main
    (segs m (left m) Variants.none lev (fun _ _ => (0 : ℕ)) (fun _ => idle) () (pdats m) (seg0 m) (seg1 m))
    (fun c Q => by
      rewrite [main_chain c, Pipeline.Seg.run_eq_chain,
        show (segs m (left m) Variants.none lev (fun _ _ => (0 : ℕ)) (fun _ => idle) () (pdats m) (seg0 m) (seg1 m) c).map Pipeline.Seg.prog = [
          StableHlo.seq hostOps0, Prog.lift (.customCall (Pipeline.entry 0) ()),
          StableHlo.seq hostOps1, Prog.lift (.customCall (Pipeline.entry 1) ()) ] from rfl]
      exact .rfl)
    (fun c => by simp only [segs, Pipeline.Seg.pipes_host, Pipeline.Seg.pipes_region, Pipeline.Seg.pipes_nil]; decide)
    (fun _ => 0) (fun g hg => if_neg hg) (fun _ => iprop(emp))
    (initOf (Pipeline.cells cfgs cellOf_inj) (Pipeline.launchToks cfgs cellOf_inj), 1) ?_
    (T₀ := fun c => iprop(StableHlo.held (c : Thread nD τ) (Pipeline.ucRefs τ sig) (V0 m c) ∗ idle c))
    (Tₙ := fun c => StableHlo.held (c : Thread nD τ) (Pipeline.ucRefs τ sig) (stage4 m c))
    (hch := fun c => ⟨.rfl, seg0_pre m c, ?_, ?_, (seg1_post m c).trans (sep_mono .rfl ?_)⟩)
    (hinit := ?_) (QY := fun c s => ∀ b : DevRef τ sig, b ∈ Pipeline.ucRefs τ sig → s.mem (c, b) = stage4 m c b)
    (hfin := fun c s' => ?_) (hQ := fun _ h hz => ⟨h, funext fun g => hz g (.inr (regions_no_unscoped g.2))⟩)
  · iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine (seg0_post m c).trans ?_
    rw [← V2_eq]; exact .rfl
  · refine BI.BIBase.Entails.trans ?_ (seg1_pre m c)
    rw [← V3_eq]; exact .rfl
  · unfold idle
    iintro ⟨-, HO⟩
    iexact HO
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ emp))
            : sProp 𝕄) := by
      rw [← bigSep_sep']
      exact bigSep_mono fun c _ => by rw [← Pipeline.unscopedBufs_held (Ix := Unit) (Name := ℕ) (U := Pipeline.UD sig nD τ) (Lvl := ℕ) c (V0 m c)]; exact BI.Entails.refl _
    iintro ⟨H, Hla⟩
    ihave H' := hsplit $$ H
    icases H' with ⟨Hh, Hr⟩
    imod (idle_launch ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (stage4 m c) s') $$ [Hh HSI]
    · isplitl [Hh] <;> iassumption
    icases Hr with ⟨%h, HSI⟩
    imodintro
    isplitr
    · ipureintro; exact h
    · iexact HSI

/-- A buffer of the launch is among those `run_main` speaks of. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- A memory that holds what `stage4` says of a device's buffers holds that device's arguments as launched. -/
theorem kept (c : Dev nD) (f : (ℓ : Loc nD τ sig) → Buf (Elt F) ℓ) (h : ∀ b, b ∈ Pipeline.ucRefs τ sig → f (c, b) = stage4 m c b) :
    f ((c.tc : Thread nD τ).loc main_arg0) = m ((c.tc : Thread nD τ).loc main_arg0)
      ∧ f ((c.tc : Thread nD τ).loc main_arg1) = m ((c.tc : Thread nD τ).loc main_arg1)
      ∧ f ((c.tc : Thread nD τ).loc main_arg2) = m ((c.tc : Thread nD τ).loc main_arg2)
      ∧ f ((c.tc : Thread nD τ).loc main_arg3) = m ((c.tc : Thread nD τ).loc main_arg3)
      ∧ f ((c.tc : Thread nD τ).loc main_arg4) = m ((c.tc : Thread nD τ).loc main_arg4)
      ∧ f ((c.tc : Thread nD τ).loc main_arg5) = m ((c.tc : Thread nD τ).loc main_arg5)
      ∧ f ((c.tc : Thread nD τ).loc main_arg6) = m ((c.tc : Thread nD τ).loc main_arg6)
      ∧ f ((c.tc : Thread nD τ).loc main_arg7) = m ((c.tc : Thread nD τ).loc main_arg7)
      ∧ f ((c.tc : Thread nD τ).loc main_arg8) = m ((c.tc : Thread nD τ).loc main_arg8)
      ∧ f ((c.tc : Thread nD τ).loc main_arg9) = m ((c.tc : Thread nD τ).loc main_arg9) :=
  ⟨(h _ (mem_uc main_arg0 rfl)).trans ((congrFun (V4_eq m c) _).symm.trans (V4_main_arg0 m (left m) c)),
    (h _ (mem_uc main_arg1 rfl)).trans ((congrFun (V4_eq m c) _).symm.trans (V4_main_arg1 m (left m) c)),
    (h _ (mem_uc main_arg2 rfl)).trans ((congrFun (V4_eq m c) _).symm.trans (V4_main_arg2 m (left m) c)),
    (h _ (mem_uc main_arg3 rfl)).trans ((congrFun (V4_eq m c) _).symm.trans (V4_main_arg3 m (left m) c)),
    (h _ (mem_uc main_arg4 rfl)).trans ((congrFun (V4_eq m c) _).symm.trans (V4_main_arg4 m (left m) c)),
    (h _ (mem_uc main_arg5 rfl)).trans ((congrFun (V4_eq m c) _).symm.trans (V4_main_arg5 m (left m) c)),
    (h _ (mem_uc main_arg6 rfl)).trans ((congrFun (V4_eq m c) _).symm.trans (V4_main_arg6 m (left m) c)),
    (h _ (mem_uc main_arg7 rfl)).trans ((congrFun (V4_eq m c) _).symm.trans (V4_main_arg7 m (left m) c)),
    (h _ (mem_uc main_arg8 rfl)).trans ((congrFun (V4_eq m c) _).symm.trans (V4_main_arg8 m (left m) c)),
    (h _ (mem_uc main_arg9 rfl)).trans ((congrFun (V4_eq m c) _).symm.trans (V4_main_arg9 m (left m) c))⟩

/-- Every execution ends with every argument as launched and every semaphore at zero. -/
theorem unchanged (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => kept m c r.2.mem (h.1 c), h.2⟩) (run_main m ρ)

end Cert.KernelIdeal.Attn

end
-- ==== Proof.Math.Softmax.lean ====
/-
  One row of a masked softmax, computed in two ways, over the extended reals.

  The program works in base two: the scores come scaled by `1 / ln 2`, a score is weighted by `2 ^ (score - maximum)`, and
  the weights are multiplied by the reciprocal of their sum. The reference works in base e and divides by the sum. Where
  the scores are real and at least one of them is not masked, the two rows are the same, and real: `rowTwo_eq_row`,
  `row_real`.
-/
module

public import Idealize.ShloMosaic.PureOps.Ideal

@[expose] public section

noncomputable section

namespace Cert.Attn

open Idealize.ShloMosaic

variable {n : ℕ}

/-- The softmax of a row of scores in base e: `exp (score - maximum)` divided by the sum of these over the row. -/
def row (e : Fin n → EReal) (j : Fin n) : EReal :=
  Ideal.div (Ideal.exp (e j - max ⊥ (Finset.univ.fold max ⊥ e)))
    (∑ k, Ideal.exp (e k - max ⊥ (Finset.univ.fold max ⊥ e)))

/-- The weights of a row of scores in base two: `2 ^ (score - maximum)`. -/
def expTwo (e : Fin n → EReal) (j : Fin n) : EReal := Ideal.exp2 (e j - Finset.univ.fold max ⊥ e)

/-- A row of weights, each multiplied by the reciprocal of the row's sum. -/
def normed (p : Fin n → EReal) (j : Fin n) : EReal := p j * Ideal.div 1 (∑ k, p k)

/-- The slope of the scores below zero: the real that the literal `0.2` denotes. -/
def slope : ℝ := 13421773 / 67108864

theorem slope_pos : 0 < slope := by unfold slope; norm_num
theorem slope_lt_one : slope < 1 := by unfold slope; norm_num

/-- The leaky rectifier on the reals. -/
def leaky (y : ℝ) : ℝ := if 0 ≤ y then y else slope * y

/-- The rectifier as the larger of the two lines. -/
theorem max_slope (y : ℝ) : max (y : EReal) ((y : EReal) * (slope : EReal)) = (leaky y : EReal) := by
  have hs := slope_lt_one
  have hp := slope_pos
  have hm : ∀ a b : ℝ, max (a : EReal) (b : EReal) = ((max a b : ℝ) : EReal) := fun a b =>
    (EReal.coe_strictMono.monotone.map_max).symm
  rw [← EReal.coe_mul, hm]
  congr 1
  unfold leaky
  split_ifs with h
  · exact max_eq_left (by nlinarith)
  · rw [max_eq_right (by nlinarith), mul_comm]

/-- The rectifier commutes with a positive factor. -/
theorem leaky_mul (y c : ℝ) (hc : 0 < c) : leaky (y * c) = leaky y * c := by
  unfold leaky
  by_cases h : 0 ≤ y
  · rw [if_pos h, if_pos (mul_nonneg h hc.le)]
  · rw [if_neg h, if_neg (by push Not at h ⊢; exact mul_neg_of_neg_of_pos h hc), mul_assoc]

/-- The maximum of a row of which some entries are masked is the largest unmasked entry. -/
theorem fold_masked (b : Fin n → Prop) [DecidablePred b] (f : Fin n → ℝ) (a : Fin n) (ha : b a)
    (hmax : ∀ j, b j → f j ≤ f a) :
    Finset.univ.fold max ⊥ (fun j => if b j then (f j : EReal) else ⊥) = (f a : EReal) := by
  apply le_antisymm
  · rw [Finset.fold_max_le]
    refine ⟨bot_le, fun j _ => ?_⟩
    split_ifs with h
    · exact EReal.coe_le_coe_iff.2 (hmax j h)
    · exact bot_le
  · rw [Finset.le_fold_max]
    exact Or.inr ⟨a, Finset.mem_univ _, by rw [if_pos ha]⟩

/-- Of the unmasked entries one is largest. -/
theorem exists_largest (b : Fin n → Prop) [DecidablePred b] (f : Fin n → ℝ) (hb : ∃ j, b j) :
    ∃ a, b a ∧ ∀ j, b j → f j ≤ f a := by
  obtain ⟨j, hj⟩ := hb
  obtain ⟨a, ha, hmax⟩ := Finset.exists_max_image (Finset.univ.filter b) f ⟨j, by simpa using hj⟩
  exact ⟨a, by simpa using ha, fun k hk => hmax k (by simpa using hk)⟩

/-- The sum of reals, read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The weight of an entry of a row with largest entry `M`, as a real: zero where the entry is masked. -/
def weight (b : Fin n → Prop) [DecidablePred b] (f : Fin n → ℝ) (M : ℝ) (j : Fin n) : ℝ :=
  if b j then Real.exp (f j - M) else 0

theorem weight_sum_pos (b : Fin n → Prop) [DecidablePred b] (f : Fin n → ℝ) (M : ℝ) (hb : ∃ j, b j) :
    0 < ∑ k, weight b f M k := by
  obtain ⟨a, ha⟩ := hb
  refine Finset.sum_pos' (fun k _ => ?_) ⟨a, Finset.mem_univ _, ?_⟩
  · unfold weight; split_ifs <;> positivity
  · unfold weight; rw [if_pos ha]; positivity

/-- The weights in base e. -/
theorem exp_masked (b : Fin n → Prop) [DecidablePred b] (f : Fin n → ℝ) (M : ℝ) (j : Fin n) :
    Ideal.exp ((if b j then (f j : EReal) else ⊥) - (M : EReal)) = (weight b f M j : EReal) := by
  unfold weight
  split_ifs with h
  · rw [← EReal.coe_sub, Ideal.exp_coe]
  · rw [EReal.bot_sub, Ideal.exp_bot, EReal.coe_zero]

/-- The weights in base two of scores scaled by `1 / ln 2` are the weights in base e. -/
theorem exp2_masked (b : Fin n → Prop) [DecidablePred b] (f : Fin n → ℝ) (M : ℝ) (j : Fin n) :
    Ideal.exp2 ((if b j then ((f j * (Real.log 2)⁻¹ : ℝ) : EReal) else ⊥) - ((M * (Real.log 2)⁻¹ : ℝ) : EReal))
      = (weight b f M j : EReal) := by
  have h2 : Real.log 2 ≠ 0 := (Real.log_pos one_lt_two).ne'
  unfold weight
  split_ifs with h
  · rw [← EReal.coe_sub, Ideal.exp2_coe]
    congr 1
    show (2 : ℝ) ^ (f j * (Real.log 2)⁻¹ - M * (Real.log 2)⁻¹) = _
    rw [Real.rpow_def_of_pos two_pos]
    congr 1
    rw [← sub_mul, mul_comm, mul_assoc, inv_mul_cancel₀ h2, mul_one]
  · rw [EReal.bot_sub, Ideal.exp2_bot, EReal.coe_zero]

/-- The reference's row: real entries, given by the real softmax. -/
theorem row_masked (b : Fin n → Prop) [DecidablePred b] (f : Fin n → ℝ) (a : Fin n) (ha : b a)
    (hmax : ∀ j, b j → f j ≤ f a) (j : Fin n) :
    row (fun j => if b j then (f j : EReal) else ⊥) j
      = ((weight b f (f a) j * (1 / ∑ k, weight b f (f a) k) : ℝ) : EReal) := by
  unfold row
  rw [fold_masked b f a ha hmax, max_eq_right bot_le]
  simp only [exp_masked]
  rw [← coe_sum, Ideal.div_coe (weight_sum_pos b f (f a) ⟨a, ha⟩).ne', ← EReal.coe_mul]

/-- The program's row: the same reals. -/
theorem normed_masked (b : Fin n → Prop) [DecidablePred b] (f : Fin n → ℝ) (a : Fin n) (ha : b a)
    (hmax : ∀ j, b j → f j ≤ f a) (j : Fin n) :
    normed (expTwo fun j => if b j then ((f j * (Real.log 2)⁻¹ : ℝ) : EReal) else ⊥) j
      = ((weight b f (f a) j * (1 / ∑ k, weight b f (f a) k) : ℝ) : EReal) := by
  have h2 : 0 < (Real.log 2)⁻¹ := inv_pos.2 (Real.log_pos one_lt_two)
  unfold normed expTwo
  rw [fold_masked b (fun j => f j * (Real.log 2)⁻¹) a ha (fun j hj => mul_le_mul_of_nonneg_right (hmax j hj) h2.le)]
  simp only [exp2_masked]
  rw [← coe_sum, Ideal.div_coe (weight_sum_pos b f (f a) ⟨a, ha⟩).ne', one_mul, ← EReal.coe_mul]

/-- The program's row equals the reference's, where the scores are real and some entry is not masked. -/
theorem rowTwo_eq_row (b : Fin n → Prop) [DecidablePred b] (y : Fin n → ℝ) (hb : ∃ j, b j) (j : Fin n) :
    normed (expTwo fun j => if b j then max ((y j * (Real.log 2)⁻¹ : ℝ) : EReal)
        (((y j * (Real.log 2)⁻¹ : ℝ) : EReal) * (slope : EReal)) else ⊥) j
      = row (fun j => if b j then (if (0 : EReal) ≤ (y j : EReal) then (y j : EReal) else (slope : EReal) * (y j : EReal)) else ⊥) j := by
  have h2 : 0 < (Real.log 2)⁻¹ := inv_pos.2 (Real.log_pos one_lt_two)
  have hl : ∀ y : ℝ, (if (0 : EReal) ≤ (y : EReal) then (y : EReal) else (slope : EReal) * (y : EReal)) = (leaky y : EReal) := by
    intro y
    unfold leaky
    by_cases h : 0 ≤ y
    · rw [if_pos h, if_pos (EReal.coe_nonneg.2 h)]
    · rw [if_neg h, if_neg (fun h' => h (EReal.coe_nonneg.1 h')), EReal.coe_mul]
  simp only [max_slope, hl, leaky_mul _ _ h2]
  obtain ⟨a, ha, hmax⟩ := exists_largest b (fun j => leaky (y j)) hb
  rw [row_masked b (fun j => leaky (y j)) a ha hmax, normed_masked b (fun j => leaky (y j)) a ha hmax]

/-- The reference's row is real, where the scores are real and some entry is not masked. -/
theorem row_real (b : Fin n → Prop) [DecidablePred b] (y : Fin n → ℝ) (hb : ∃ j, b j) :
    ∃ C : Fin n → ℝ, ∀ j,
      row (fun j => if b j then (if (0 : EReal) ≤ (y j : EReal) then (y j : EReal) else (slope : EReal) * (y j : EReal)) else ⊥) j = (C j : EReal) := by
  have hl : ∀ y : ℝ, (if (0 : EReal) ≤ (y : EReal) then (y : EReal) else (slope : EReal) * (y : EReal)) = (leaky y : EReal) := by
    intro y
    unfold leaky
    by_cases h : 0 ≤ y
    · rw [if_pos h, if_pos (EReal.coe_nonneg.2 h)]
    · rw [if_neg h, if_neg (fun h' => h (EReal.coe_nonneg.1 h')), EReal.coe_mul]
  simp only [hl]
  obtain ⟨a, ha, hmax⟩ := exists_largest b (fun j => leaky (y j)) hb
  exact ⟨_, fun j => row_masked b (fun j => leaky (y j)) a ha hmax j⟩

end Cert.Attn

end
-- ==== Proof.Math.Layer.lean ====
/-
  One layer of the network, over the extended reals, and the program's way of computing its attention weights.

  `att` is the reference's attention matrix: a masked softmax of the rectified scores. `attTwo` is the program's: the
  scores carry the factor `1 / (ln 2 · √32)` inside their sum and the softmax is in base two. `attTwo_eq_att`: where the
  features and the two score matrices are real, they are one matrix. `att_real`, `mixed_real`: that matrix is real, and so
  is the next layer's input where the layer's own matrix and offset are real too.
-/
module

public import proofs.«01_k».proof.Proof.Math.Softmax

@[expose] public section

noncomputable section

namespace Cert.Attn

open Idealize.ShloMosaic

/-- A matrix of extended reals. -/
abbrev Mat (a b : ℕ) := Fin a → Fin b → EReal

/-- Every entry of the matrix is a real number. -/
def IsReal {a b : ℕ} (X : Mat a b) : Prop := ∃ R : Fin a → Fin b → ℝ, ∀ i j, X i j = (R i j : EReal)

variable {N D A : ℕ}

/-- Who attends to whom: an edge of the graph, or the node itself. -/
def adj (thr : EReal) (G : Mat N N) (i j : Fin N) : Prop := thr < G i j ∨ i = j

instance (thr : EReal) (G : Mat N N) (i j : Fin N) : Decidable (adj thr G i j) := by unfold adj; infer_instance
instance (thr : EReal) (G : Mat N N) (i : Fin N) : DecidablePred (adj thr G i) := fun j => inferInstanceAs (Decidable (adj thr G i j))

/-- The scores of the reference: products of queries and keys, divided by the root of their length. -/
def score (X : Mat N D) (Wq Wk : Mat D A) (i j : Fin N) : EReal :=
  Ideal.div (∑ a, (∑ d, X i d * Wq d a) * (∑ d, X j d * Wk d a)) ((Real.sqrt 32 : ℝ) : EReal)

/-- The rectified score. -/
def rectified (y : EReal) : EReal := if 0 ≤ y then y else (slope : EReal) * y

/-- The reference's attention matrix. -/
def att (M : Fin N → Fin N → Prop) [∀ i, DecidablePred (M i)] (X : Mat N D) (Wq Wk : Mat D A) (i j : Fin N) : EReal :=
  row (fun j => if M i j then rectified (score X Wq Wk i j) else ⊥) j

/-- The constant that the program scales its queries by. -/
def scale : ℝ := (Real.log 2 * Real.sqrt 32)⁻¹

/-- The scores of the program: the constant is inside the sum. -/
def scoreTwo (X : Mat N D) (Wq Wk : Mat D A) (i j : Fin N) : EReal :=
  ∑ a, (∑ d, X i d * Wq d a) * (scale : EReal) * (∑ d, Wk d a * X j d)

/-- The program's masked scores. -/
def maskedTwo (M : Fin N → Fin N → Prop) [∀ i, DecidablePred (M i)] (X : Mat N D) (Wq Wk : Mat D A) (i j : Fin N) : EReal :=
  if M i j then max (scoreTwo X Wq Wk i j) (scoreTwo X Wq Wk i j * (slope : EReal)) else ⊥

/-- The program's attention matrix. -/
def attTwo (M : Fin N → Fin N → Prop) [∀ i, DecidablePred (M i)] (X : Mat N D) (Wq Wk : Mat D A) (i j : Fin N) : EReal :=
  normed (expTwo (maskedTwo M X Wq Wk i)) j

/-- The values that the attention mixes. -/
def hidden (X : Mat N D) (W : Mat D D) (b : Fin D → EReal) (i : Fin N) (c : Fin D) : EReal := (∑ d, X i d * W d c) + b c

/-- The layer's result before its activation: the features plus the mixed values. -/
def mixed (C : Mat N N) (X : Mat N D) (W : Mat D D) (b : Fin D → EReal) (i : Fin N) (c : Fin D) : EReal :=
  X i c + ∑ j, C i j * hidden X W b j c

/-- The first layer's result: the negative entries are replaced by zero. -/
def relu (X : Mat N D) (i : Fin N) (c : Fin D) : EReal := max (X i c) 0

/-- A product of real matrices is real. -/
theorem mul_real {a b c : ℕ} {X : Mat a b} {Y : Mat b c} (hX : IsReal X) (hY : IsReal Y) :
    IsReal fun i j => ∑ k, X i k * Y k j := by
  obtain ⟨x, hx⟩ := hX
  obtain ⟨y, hy⟩ := hY
  refine ⟨fun i j => ∑ k, x i k * y k j, fun i j => ?_⟩
  rw [coe_sum]
  exact Finset.sum_congr rfl fun k _ => by rw [hx, hy, EReal.coe_mul]

/-- Of real features both programs' scores are real, and the program's is the reference's over `ln 2`. -/
theorem scores_real {X : Mat N D} {Wq Wk : Mat D A} (hX : IsReal X) (hq : IsReal Wq) (hk : IsReal Wk) :
    ∃ y : Fin N → Fin N → ℝ, (∀ i j, score X Wq Wk i j = (y i j : EReal))
      ∧ ∀ i j, scoreTwo X Wq Wk i j = ((y i j * (Real.log 2)⁻¹ : ℝ) : EReal) := by
  obtain ⟨q, hq⟩ := mul_real hX hq
  obtain ⟨k, hk⟩ := mul_real hX hk
  have h32 : Real.sqrt 32 ≠ 0 := (Real.sqrt_pos.2 (by norm_num)).ne'
  refine ⟨fun i j => (∑ a, q i a * k j a) * (1 / Real.sqrt 32), fun i j => ?_, fun i j => ?_⟩
  · unfold score
    simp only [hq, hk, ← EReal.coe_mul, ← coe_sum]
    rw [Ideal.div_coe h32, ← EReal.coe_mul]
  · unfold scoreTwo
    simp only [mul_comm (Wk _ _) (X _ _)]
    simp only [hq, hk, ← EReal.coe_mul, ← coe_sum]
    congr 1
    rw [Finset.sum_mul, Finset.sum_mul]
    refine Finset.sum_congr rfl fun a _ => ?_
    unfold scale
    rw [mul_inv, one_div]
    ring

variable {M : Fin N → Fin N → Prop} [∀ i, DecidablePred (M i)]

/-- The program's attention matrix is the reference's. -/
theorem attTwo_eq_att {X : Mat N D} {Wq Wk : Mat D A} (hM : ∀ i, M i i) (hX : IsReal X) (hq : IsReal Wq) (hk : IsReal Wk) :
    attTwo M X Wq Wk = att M X Wq Wk := by
  obtain ⟨y, hy, hy2⟩ := scores_real hX hq hk
  funext i j
  unfold attTwo att maskedTwo rectified
  simp only [hy, hy2]
  exact rowTwo_eq_row (M i) (y i) ⟨i, hM i⟩ j

/-- The attention matrix of real features is real. -/
theorem att_real {X : Mat N D} {Wq Wk : Mat D A} (hM : ∀ i, M i i) (hX : IsReal X) (hq : IsReal Wq) (hk : IsReal Wk) :
    IsReal (att M X Wq Wk) := by
  obtain ⟨y, hy, _⟩ := scores_real hX hq hk
  choose C hC using fun i => row_real (M i) (y i) ⟨i, hM i⟩
  refine ⟨C, fun i j => ?_⟩
  unfold att rectified
  simp only [hy]
  exact hC i j

/-- The layer's result is real, where everything that it is made of is. -/
theorem mixed_real {C : Mat N N} {X : Mat N D} {W : Mat D D} {b : Fin D → EReal} (hC : IsReal C) (hX : IsReal X)
    (hW : IsReal W) (hb : ∃ r : Fin D → ℝ, ∀ c, b c = (r c : EReal)) : IsReal (relu (mixed C X W b)) := by
  obtain ⟨r, hr⟩ := hb
  obtain ⟨h, hh⟩ := mul_real hX hW
  have hh' : IsReal (hidden X W b) := ⟨fun i c => h i c + r c, fun i c => by
    unfold hidden; rw [EReal.coe_add, ← hr, ← hh]⟩
  obtain ⟨p, hp⟩ := mul_real hC hh'
  obtain ⟨x, hx⟩ := hX
  refine ⟨fun i c => max (x i c + p i c) 0, fun i c => ?_⟩
  unfold relu mixed
  have hp' : ∑ j, C i j * hidden X W b j c = (p i c : EReal) := hp i c
  rw [hp', hx, ← EReal.coe_add, ← EReal.coe_zero]
  exact (EReal.coe_strictMono.monotone.map_max).symm

end Cert.Attn

end
-- ==== Proof.Math.Bits.lean ====
/-
  Sixteen mask bits in one number, and each of them read back.

  The program packs sixteen rows of a mask into a number by adding `2 ^ s` for every row `s` whose bit is set, carries the
  number as a float, converts it to a 32-bit word and tests bit `s` of the word. `unpack` is that what is read back is what
  was packed.
-/
module

public import Idealize.ShloMosaic.PureOps.Ideal

@[expose] public section

noncomputable section

namespace Cert.Attn

open Idealize.ShloMosaic

/-- The number whose binary digits are `f`, digit 0 first. -/
def digits {n : ℕ} (f : Fin n → Bool) : ℕ := ∑ s : Fin n, 2 ^ (s : ℕ) * (f s).toNat

theorem digits_succ {n : ℕ} (f : Fin (n + 1) → Bool) :
    digits f = (f 0).toNat + 2 * digits (fun s => f s.succ) := by
  unfold digits
  rw [Fin.sum_univ_succ, Finset.mul_sum]
  simp only [Fin.val_zero, pow_zero, one_mul, Fin.val_succ, pow_succ]
  congr 1
  exact Finset.sum_congr rfl fun s _ => by ring

theorem digits_lt {n : ℕ} (f : Fin n → Bool) : digits f < 2 ^ n := by
  induction n with
  | zero => simp [digits]
  | succ n ih =>
    rw [digits_succ, pow_succ]
    have h := ih (fun s => f s.succ)
    have hb : (f 0).toNat ≤ 1 := Bool.toNat_le _
    omega

/-- A digit of the number is the bit that was put there. -/
theorem testBit_digits {n : ℕ} (f : Fin n → Bool) (s : Fin n) : (digits f).testBit s = f s := by
  induction n with
  | zero => exact s.elim0
  | succ n ih =>
    rw [digits_succ]
    refine Fin.cases ?_ (fun s => ?_) s
    · rw [Fin.val_zero, Nat.testBit_zero]
      cases f 0 <;> simp
    · rw [Fin.val_succ, Nat.testBit_succ]
      have h : ((f 0).toNat + 2 * digits (fun s => f s.succ)) / 2 = digits (fun s => f s.succ) := by
        have hb : (f 0).toNat ≤ 1 := Bool.toNat_le _
        omega
      rw [h]
      exact ih _ s

/-- A natural number below `2 ^ 31` converts to the word that spells it. -/
theorem fptosi_nat (v : ℕ) (h : v < 2 ^ 31) : Ideal.fptosi 32 ((v : ℝ) : EReal) = BitVec.ofNat 32 v := by
  unfold Ideal.fptosi
  rw [Ideal.toIntClamped_coe, if_pos (Nat.cast_nonneg v), Int.floor_natCast, min_eq_right (by push_cast; omega),
    max_eq_right (by push_cast; omega)]
  exact BitVec.ofInt_natCast 32 v

/-- A word, masked to bit `s`, is nonzero exactly when the bit is set. -/
theorem and_shift_ne_zero (v : ℕ) (s : Fin 16) :
    (BitVec.ofNat 32 v &&& (1#32 <<< (BitVec.ofNat 32 s.val).toNat) ≠ 0#32) ↔ v.testBit s = true := by
  have hs : (BitVec.ofNat 32 s.val).toNat = s.val := by
    rw [BitVec.toNat_ofNat]; exact Nat.mod_eq_of_lt (by have := s.isLt; omega)
  rw [hs]
  have hlt : s.val < 32 := by have := s.isLt; omega
  constructor
  · intro h
    by_contra hb
    apply h
    apply BitVec.eq_of_getLsbD_eq
    intro i hi
    rw [BitVec.getLsbD_and, BitVec.getLsbD_shiftLeft]
    by_cases hi' : i = s.val
    · subst hi'
      simp [BitVec.getLsbD_ofNat, hb]
    · simp only [BitVec.getLsbD_one, BitVec.getLsbD_zero]
      simp only [Bool.and_eq_false_imp]
      intro _
      simp
      omega
  · intro hb h
    have h' := congrArg (fun w : BitVec 32 => w.getLsbD s.val) h
    have hg : (BitVec.ofNat 32 v)[s.val] = v.testBit s.val := by
      rw [← BitVec.getLsbD_eq_getElem, BitVec.getLsbD_ofNat, decide_eq_true hlt, Bool.true_and]
    simp [hg, hb, hlt] at h'

end Cert.Attn

end
-- ==== Proof.Math.Mat.lean ====
/-
  Vectors as matrices, and the words that hold sixteen rows of a mask.
-/
module

public import proofs.«01_k».proof.Proof.Math.Layer
public import proofs.«01_k».proof.Proof.Math.Bits
public import Idealize.ShloMosaic.Lib.Pointwise

@[expose] public section

noncomputable section

namespace Cert.Attn

open Idealize.ShloMosaic

/-- A vector of two axes as a matrix. -/
abbrev mat {a b : ℕ} (v : (⟨2, ![a, b]⟩ : Shape).Idx → EReal) : Mat a b := fun i j => v (ix2 i j)
/-- A vector of one axis as a function. -/
abbrev vec {a : ℕ} (v : (⟨1, ![a]⟩ : Shape).Idx → EReal) : Fin a → EReal := fun i => v (ix1 i)

/-- The graph's threshold. -/
abbrev thr : EReal := Ideal.ofBits .f32 0x3F7D70A4#32

/-- The word at row `R` of the packed mask: bit `s` is the mask at row `16 R + s`. -/
def maskWord (M : Fin 8192 → Fin 8192 → Prop) [∀ i, DecidablePred (M i)] (R : Fin 512) (j : Fin 8192) : ℕ :=
  digits fun s : Fin 16 => decide (M ⟨16 * R.val + s.val, by omega⟩ j)

theorem maskWord_lt (M : Fin 8192 → Fin 8192 → Prop) [∀ i, DecidablePred (M i)] (R : Fin 512) (j : Fin 8192) :
    maskWord M R j < 2 ^ 31 :=
  lt_trans (digits_lt _) (by norm_num)

/-- The entry of the packing table: powers of two on sixteen blocks of sixteen columns. -/
def packEntry (g : Fin 16) (k : Fin 256) : ℕ := if k.val / 16 = g.val then 2 ^ (k.val % 16) else 0

/-- A row of the table against a column of bits is the number with those binary digits. -/
theorem sum_packEntry (g : Fin 16) (f : Fin 256 → Bool) :
    ∑ k, packEntry g k * (f k).toNat = digits fun s : Fin 16 => f ⟨16 * g.val + s.val, by omega⟩ := by
  have e := Equiv.sum_comp (finProdFinEquiv (m := 16) (n := 16)) fun k : Fin (16 * 16) => packEntry g k * (f k).toNat
  refine e.symm.trans ?_
  rw [Fintype.sum_prod_type, Finset.sum_eq_single g]
  · unfold digits
    refine Finset.sum_congr rfl fun s _ => ?_
    have hv : (finProdFinEquiv (g, s) : Fin (16 * 16)).val = s.val + 16 * g.val := rfl
    have hk : (finProdFinEquiv (g, s) : Fin (16 * 16)) = (⟨16 * g.val + s.val, by omega⟩ : Fin 256) :=
      Fin.ext (hv.trans (Nat.add_comm _ _))
    rw [hk]
    unfold packEntry
    rw [if_pos (by show (16 * g.val + s.val) / 16 = g.val; omega), show (16 * g.val + s.val) % 16 = s.val by omega]
  · intro a _ ha
    refine Finset.sum_eq_zero fun s _ => ?_
    have hv : (finProdFinEquiv (a, s) : Fin (16 * 16)).val = s.val + 16 * a.val := rfl
    unfold packEntry
    rw [if_neg (by rw [hv]; intro h; exact ha (Fin.ext (by omega))), zero_mul]
  · intro h; exact absurd (Finset.mem_univ _) h

end Cert.Attn

end
-- ==== Proof.Consts.lean ====
/-
  The float constants that the two programs spell, as the extended reals that their words denote.
-/
module

public import proofs.«01_k».proof.Proof.Math.Softmax

@[expose] public section

noncomputable section

namespace Cert.Attn

open Idealize.ShloMosaic

/-- `32.0`, which the reference takes the root of, is the real 32. -/
theorem ofBits_32 : Ideal.ofBits .f32 0x42000000#32 = ((32 : ℝ) : EReal) := by
  simp [Ideal.ofBits, Ideal.ieee, -EReal.coe_mul]; norm_num

/-- `0.2` is the slope. -/
theorem ofBits_slope : Ideal.ofBits .f32 0x3E4CCCCD#32 = ((slope : ℝ) : EReal) := by
  unfold slope
  simp [Ideal.ofBits, Ideal.ieee, -EReal.coe_mul]; norm_num

/-- The word of minus infinity. -/
theorem ofBits_bot : Ideal.ofBits .f32 0xFF800000#32 = ⊥ := by
  simp [Ideal.ofBits, Ideal.ieee]

/-- The word of plus infinity. -/
theorem ofBits_top : Ideal.ofBits .f32 0x7F800000#32 = ⊤ := by
  simp [Ideal.ofBits, Ideal.ieee]

/-- The reference's root of 32. -/
theorem sqrt_32 : Ideal.sqrt (Ideal.ofBits .f32 0x42000000#32) = ((Real.sqrt 32 : ℝ) : EReal) := by
  rw [ofBits_32, Ideal.sqrt_coe, if_neg (by norm_num)]

end Cert.Attn

end
-- ==== Proof.RefValue.lean ====
/-
  What the reference computes: both layers' attention matrices and results as the functions of Math/Layer.lean.

  Each group of operations is read at an index once, over variables, and used for both layers.
-/
module

public import proofs.«01_k».proof.Proof.Gen.ReferenceIdeal.Run
public import proofs.«01_k».proof.Proof.Math.Layer
public import proofs.«01_k».proof.Proof.Math.Mat
public import proofs.«01_k».proof.Proof.Consts
public import Idealize.ShloMosaic.Lib.Pointwise

@[expose] public section

set_option maxRecDepth 16384

noncomputable section

namespace Cert.ReferenceIdeal.Attn

open Idealize.ShloMosaic Idealize.ShloMosaic.TcCoe Idealize.ShloMosaic.StableHlo Idealize.SL.Sem
open Cert.ReferenceIdeal Cert.ReferenceIdeal.Gen Cert.ReferenceIdeal.Value
open Cert.Attn

/-- The mask: an edge of the graph, or the diagonal. -/
def maskT (G : FVec Ideal S8192x8192 .f32) : IVec S8192x8192 1 :=
  ori (cmpf .ogt G (broadcastInDim S8192x8192 ![] bcast_S_S8192x8192 (constant S_ .f32 0x3F7D70A4#32))) (cmpi .eq (addi (iotaInDim S8192x8192 32 0) (broadcastInDim S8192x8192 ![] bcast_S_S8192x8192 (constantI S_ 32 0#32))) (iotaInDim S8192x8192 32 1))

/-- The scores. -/
def scoreT (X : FVec Ideal S8192x64 .f32) (Wq Wk : FVec Ideal S64x32 .f32) : FVec Ideal S8192x8192 .f32 :=
  Host.divf (Host.dotGeneral dot_S8192x32_S32x8192_S8192x8192_1_0_0_1_n_n none (Host.dotGeneral dot_S8192x64_S64x32_S8192x32_1_0_0_1_n_n none X Wq) (transpose S32x8192 [1, 0] (Host.dotGeneral dot_S8192x64_S64x32_S8192x32_1_0_0_1_n_n none X Wk) transposes_S8192x32_S32x8192_1_0)) (broadcastInDim S8192x8192 ![] bcast_S_S8192x8192 (Host.sqrt (constant S_ .f32 0x42000000#32)))

/-- The rectified scores, masked. -/
def maskedT (B : IVec S8192x8192 1) (E : FVec Ideal S8192x8192 .f32) : FVec Ideal S8192x8192 .f32 :=
  select B (select (cmpf .oge E (broadcastInDim S8192x8192 ![] bcast_S_S8192x8192 (constant S_ .f32 0x00000000#32))) E (mulf (broadcastInDim S8192x8192 ![] bcast_S_S8192x8192 (id (constant S_ .f32 0x3E4CCCCD#32))) E)) (broadcastInDim S8192x8192 ![] bcast_S_S8192x8192 (id (constant S_ .f32 0xFF800000#32)))

/-- The exponentials of the scores less their row's maximum. -/
def expT (E : FVec Ideal S8192x8192 .f32) : FVec Ideal S8192x8192 .f32 :=
  Host.exp (subf E (broadcastInDim S8192x8192 ![0, 1] bcast_S8192x1_S8192x8192_0_1 (broadcastInDim S8192x1 ![0] bcast_S8192_S8192x1_0 (maximumf (broadcastInDim S8192 ![] bcast_S_S8192 (constant S_ .f32 0xFF800000#32)) (Host.reduce FloatOps.maximumf E (constant S_ .f32 0xFF800000#32) reducesTo_S8192x8192_S8192_d1 h_S_)))))

/-- Each row divided by its sum. -/
def overSumT (P : FVec Ideal S8192x8192 .f32) : FVec Ideal S8192x8192 .f32 :=
  Host.divf P (broadcastInDim S8192x8192 ![0, 1] bcast_S8192x1_S8192x8192_0_1 (broadcastInDim S8192x1 ![0] bcast_S8192_S8192x1_0 (Host.reduceAdd P (constant S_ .f32 0x00000000#32) reducesTo_S8192x8192_S8192_d1 h_S_)))

/-- The features plus the attention's mixture of the layer's values. -/
def mixedT (C : FVec Ideal S8192x8192 .f32) (X : FVec Ideal S8192x64 .f32) (W : FVec Ideal S64x64 .f32) (b : FVec Ideal S64 .f32) : FVec Ideal S8192x64 .f32 :=
  addf X (Host.dotGeneral dot_S8192x8192_S8192x64_S8192x64_1_0_0_1_n_n none C (addf (Host.dotGeneral dot_S8192x64_S64x64_S8192x64_1_0_0_1_n_n none X W) (broadcastInDim S8192x64 ![0, 1] bcast_S1x64_S8192x64_0_1 (broadcastInDim S1x64 ![1] bcast_S64_S1x64_1 b))))

/-- The negative entries replaced by zero. -/
def reluT (Y : FVec Ideal S8192x64 .f32) : FVec Ideal S8192x64 .f32 :=
  maximumf Y (broadcastInDim S8192x64 ![] bcast_S_S8192x64 (constant S_ .f32 0x00000000#32))

/-- Two row numbers below 8192 are equal when their words are. -/
theorem word_eq (i j : Fin 8192) : BitVec.ofNat 32 i.val + 0#32 = BitVec.ofNat 32 j.val ↔ i = j := by
  rw [BitVec.add_zero]
  constructor
  · intro h
    have h' := congrArg BitVec.toNat h
    rw [BitVec.toNat_ofNat, BitVec.toNat_ofNat, Nat.mod_eq_of_lt (by have := i.isLt; omega),
      Nat.mod_eq_of_lt (by have := j.isLt; omega)] at h'
    exact Fin.ext h'
  · rintro rfl; rfl

/-- The mask's bit is set exactly for the pairs that attend. -/
theorem maskT_at (G : FVec Ideal S8192x8192 .f32) (i j : Fin 8192) : maskT G (ix2 i j) = 1#1 ↔ adj thr (mat G) i j := by
  pointwise [maskT]
  rw [IntOp.ori, IntOp.cmpi, IntOp.addi]
  unfold adj
  rw [← word_eq i j]
  generalize BitVec.ofNat 32 i.val + 0#32 = u
  generalize BitVec.ofNat 32 j.val = v
  by_cases h1 : thr < G (ix2 i j) <;> by_cases h2 : u = v <;> simp [h1, h2]
  all_goals (first | (rw [beq_eq_false_iff_ne.2 h2]; decide) | decide)

theorem scoreT_at (X : FVec Ideal S8192x64 .f32) (Wq Wk : FVec Ideal S64x32 .f32) (i j : Fin 8192) :
    scoreT X Wq Wk (ix2 i j) = score (mat X) (mat Wq) (mat Wk) i j := by
  pointwise [scoreT]
  rw [sqrt_32]
  rfl

theorem maskedT_at (B : IVec S8192x8192 1) (E : FVec Ideal S8192x8192 .f32) (i j : Fin 8192) :
    maskedT B E (ix2 i j) = Scalar.select (B (ix2 i j)) (rectified (E (ix2 i j))) ⊥ := by
  pointwise [maskedT, id_eq]
  rw [ofBits_bot, ofBits_slope]
  rfl

/-- The host's maximum along the second axis, at a row. -/
theorem reduceMax_at {n k : ℕ} {u : Shape} (E : (⟨2, ![n, k]⟩ : Shape).Idx → Ideal .f32) (init : u.Idx → Ideal .f32)
    (h : (⟨2, ![n, k]⟩ : Shape).ReducesTo [1] ⟨1, ![n]⟩) (hu : 0 < u.numel) (i : Fin n) :
    Host.reduce FloatOps.maximumf E init h hu (ix1 i)
      = Finset.univ.fold (max : EReal → EReal → EReal) (init (Shape.Idx.first hu)) (fun j => E (ix2 i j)) := by
  rw [Ideal.maximumf_eq_max, Host.reduce_eq_fold, Shape.ReducesTo.fold_fiber_r2_a1]
  rfl

/-- The exponentials, for whatever the row maxima are. -/
theorem expOf_at (E : FVec Ideal S8192x8192 .f32) (R : FVec Ideal S8192 .f32) (i j : Fin 8192) :
    Host.exp (subf E (broadcastInDim S8192x8192 ![0, 1] bcast_S8192x1_S8192x8192_0_1 (broadcastInDim S8192x1 ![0] bcast_S8192_S8192x1_0 (maximumf (broadcastInDim S8192 ![] bcast_S_S8192 (constant S_ .f32 0xFF800000#32)) R)))) (ix2 i j)
      = Ideal.exp (E (ix2 i j) - max ⊥ (R (ix1 i))) := by
  pointwise
  rw [ofBits_bot]

theorem expT_at (E : FVec Ideal S8192x8192 .f32) (i j : Fin 8192) :
    expT E (ix2 i j) = Ideal.exp (E (ix2 i j) - max ⊥ (Finset.univ.fold max ⊥ fun k => E (ix2 i k))) := by
  unfold expT
  rw [expOf_at, reduceMax_at]
  exact congrArg (fun b => Ideal.exp (E (ix2 i j) - max ⊥ (Finset.univ.fold max b fun k => E (ix2 i k)))) ofBits_bot

theorem overSumT_at (P : FVec Ideal S8192x8192 .f32) (i j : Fin 8192) :
    overSumT P (ix2 i j) = Ideal.div (P (ix2 i j)) (∑ k, P (ix2 i k)) := by
  pointwise [overSumT]

theorem mixedT_at (C : FVec Ideal S8192x8192 .f32) (X : FVec Ideal S8192x64 .f32) (W : FVec Ideal S64x64 .f32)
    (b : FVec Ideal S64 .f32) (i : Fin 8192) (c : Fin 64) :
    mixedT C X W b (ix2 i c) = mixed (mat C) (mat X) (mat W) (vec b) i c := by
  pointwise [mixedT]
  rfl

theorem reluT_at (Y : FVec Ideal S8192x64 .f32) (i : Fin 8192) (c : Fin 64) : reluT Y (ix2 i c) = relu (mat Y) i c := by
  pointwise [reluT]
  rfl

/-- The attention matrix, as the reference computes it from its features. -/
def attT (G : FVec Ideal S8192x8192 .f32) (X : FVec Ideal S8192x64 .f32) (Wq Wk : FVec Ideal S64x32 .f32) : FVec Ideal S8192x8192 .f32 :=
  overSumT (expT (maskedT (maskT G) (scoreT X Wq Wk)))

/-- The reference's attention matrix is the masked softmax of the rectified scores. -/
theorem attT_at (G : FVec Ideal S8192x8192 .f32) (X : FVec Ideal S8192x64 .f32) (Wq Wk : FVec Ideal S64x32 .f32) (i j : Fin 8192) :
    attT G X Wq Wk (ix2 i j) = att (adj thr (mat G)) (mat X) (mat Wq) (mat Wk) i j := by
  have hm : ∀ k, maskedT (maskT G) (scoreT X Wq Wk) (ix2 i k)
      = if adj thr (mat G) i k then rectified (score (mat X) (mat Wq) (mat Wk) i k) else ⊥ := by
    intro k
    rw [maskedT_at, scoreT_at]
    by_cases h : adj thr (mat G) i k
    · rw [if_pos h, (maskT_at G i k).2 h]; rfl
    · rw [if_neg h]
      exact if_neg fun hb => h ((maskT_at G i k).1 hb)
  unfold attT att row
  rw [overSumT_at]
  simp only [expT_at, hm]

end Cert.ReferenceIdeal.Attn

end
-- ==== Proof.RefRun.lean ====
/-
  The reference's run: its three results, in terms of the functions of Math/Layer.lean, and its frame.
-/
module

public import proofs.«01_k».proof.Proof.RefValue

@[expose] public section

set_option maxRecDepth 16384

noncomputable section

namespace Cert.ReferenceIdeal.Attn

open Idealize.ShloMosaic Idealize.ShloMosaic.TcCoe Idealize.ShloMosaic.StableHlo Idealize.SL.Sem
open Cert.ReferenceIdeal Cert.ReferenceIdeal.Gen Cert.ReferenceIdeal.Value
open Cert.Attn

variable (m : (ℓ : Loc nD τ sig) → Buf (Elt Ideal) ℓ) (c : Dev nD)

/-- The node features. -/
abbrev argX : FVec Ideal S8192x64 .f32 := m ((c.tc : Thread nD τ).loc main_arg0)
/-- The graph. -/
abbrev argG : FVec Ideal S8192x8192 .f32 := m ((c.tc : Thread nD τ).loc main_arg1)
/-- The first layer's weights, queries, keys and offset. -/
abbrev argW1 : FVec Ideal S64x64 .f32 := m ((c.tc : Thread nD τ).loc main_arg2)
abbrev argQ1 : FVec Ideal S64x32 .f32 := m ((c.tc : Thread nD τ).loc main_arg3)
abbrev argK1 : FVec Ideal S64x32 .f32 := m ((c.tc : Thread nD τ).loc main_arg4)
abbrev argB1 : FVec Ideal S64 .f32 := m ((c.tc : Thread nD τ).loc main_arg5)
/-- The second layer's weights, queries, keys and offset. -/
abbrev argW2 : FVec Ideal S64x64 .f32 := m ((c.tc : Thread nD τ).loc main_arg6)
abbrev argQ2 : FVec Ideal S64x32 .f32 := m ((c.tc : Thread nD τ).loc main_arg7)
abbrev argK2 : FVec Ideal S64x32 .f32 := m ((c.tc : Thread nD τ).loc main_arg8)
abbrev argB2 : FVec Ideal S64 .f32 := m ((c.tc : Thread nD τ).loc main_arg9)

/-- The first layer's attention matrix. -/
def att1T : FVec Ideal S8192x8192 .f32 := attT (argG m c) (argX m c) (argQ1 m c) (argK1 m c)
/-- The first layer's features. -/
def out1T : FVec Ideal S8192x64 .f32 := reluT (mixedT (att1T m c) (argX m c) (argW1 m c) (argB1 m c))
/-- The second layer's attention matrix. -/
def att2T : FVec Ideal S8192x8192 .f32 := attT (argG m c) (out1T m c) (argQ2 m c) (argK2 m c)
/-- The second layer's features. -/
def out2T : FVec Ideal S8192x64 .f32 := mixedT (att2T m c) (out1T m c) (argW2 m c) (argB2 m c)

theorem v20_eq : res_main_v20 (launchContents m c) = maskedT (maskT (argG m c)) (scoreT (argX m c) (argQ1 m c) (argK1 m c)) := rfl
theorem v27_eq : res_main_v27 (launchContents m c) = expT (maskedT (maskT (argG m c)) (scoreT (argX m c) (argQ1 m c) (argK1 m c))) := by
  rw [← v20_eq]; rfl
theorem v34_eq : res_main_v34 (launchContents m c) = out1T m c := by
  unfold out1T att1T attT; rw [← v27_eq]; rfl
theorem v47_eq : res_main_v47 (launchContents m c) = maskedT (maskT (argG m c)) (scoreT (out1T m c) (argQ2 m c) (argK2 m c)) := by
  rw [← v34_eq]; rfl
theorem v54_eq : res_main_v54 (launchContents m c) = expT (maskedT (maskT (argG m c)) (scoreT (out1T m c) (argQ2 m c) (argK2 m c))) := by
  rw [← v47_eq]; rfl

/-- The reference's results and its arguments at the end of its run. -/
theorem run_values (ρ : Dev nD → PrngReg) :
    θ_run defs (onTc (τ := τ) (main (F := Ideal))) ⟨m, fun _ => 0, ρ⟩ fun r => ∀ c : Dev nD,
      r.2.mem ((c.tc : Thread nD τ).loc main_v60) = out2T m c
      ∧ r.2.mem ((c.tc : Thread nD τ).loc main_v31) = att1T m c
      ∧ r.2.mem ((c.tc : Thread nD τ).loc main_v58) = att2T m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (by rw [v34_eq, v54_eq]; rfl), (h c).2.1.trans (by rw [v27_eq]; rfl),
    (h c).2.2.1.trans (by rw [v54_eq]; rfl), (h c).2.2.2⟩) (run m ρ)

/-- The program has no semaphore, so every counter reads zero. -/
theorem no_counter (s : GSem nD τ sig → ℤ) : s = fun _ => 0 := by
  funext g
  obtain ⟨_, l⟩ := g
  cases l <;> rename_i k <;> exact absurd k.isLt (Nat.not_lt_zero _)

/-- The reference runs and leaves its arguments unchanged. -/
theorem unchanged (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 :=
  (θ_run defs _ _).mono (fun r h => ⟨fun c => (h c).2.2.2, no_counter r.2.sem⟩) (run m ρ)

end Cert.ReferenceIdeal.Attn

end
-- ==== Proof.Finite.lean ====
/-
  What the precondition says: the features, the first layer's matrices and bias, and the query and key matrices of both
  layers hold real numbers.
-/
module

public import proofs.«01_k».proof.Defs
public import proofs.«01_k».proof.Proof.Gen.Pre_finite
public import proofs.«01_k».proof.Proof.Consts
public import proofs.«01_k».proof.Proof.Math.Mat
public import proofs.«01_k».proof.Proof.Math.Layer
public import Idealize.ShloMosaic.Lib.ReduceAll
public import Idealize.ShloMosaic.Lib.Pointwise

@[expose] public section

set_option maxRecDepth 16384

noncomputable section

namespace Cert.Pre_finite.Attn

open Cert.Pre_finite Cert.Pre_finite.Gen
open Idealize.ShloMosaic
open Cert.Attn

/-- An extended real whose magnitude is below infinity is a real number. -/
theorem real_of_abs_lt {x : EReal} (h : max x (-x) < ⊤) : ∃ r : ℝ, x = (r : EReal) := by
  induction x with
  | bot => simp at h
  | top => simp at h
  | coe r => exact ⟨r, rfl⟩

/-- The test of one array: where it says yes, every element is a real number. -/
theorem real_of_test {S : Shape} {axes : List (Fin S.rank)} (x : FVec Ideal S .f32) (hb : S_.BroadcastsInDim S (![] : Fin 0 → Fin S.rank))
    (hr : S.ReducesTo axes S_) (hu : 0 < S_.numel) (j : S_.Idx)
    (e : Host.reduce IntOp.andi (cmpf .olt (Host.absf x) (broadcastInDim S ![] hb (constant (F := Ideal) S_ .f32 0x7F800000#32)))
      (constantI S_ 1 1#1) hr hu j = 1#1) (i : S.Idx) : ∃ r : ℝ, x i = (r : EReal) := by
  haveI : Subsingleton S_.Idx := ⟨fun a b => funext fun k => k.elim0⟩
  have h := Host.reduce_andi_all _ _ _ _ j e i
  apply real_of_abs_lt
  pointwise at h
  rw [ofBits_top] at h
  by_contra hx
  rw [decide_eq_false (show ¬ (FloatOps.absf (x i) < (⊤ : EReal)) from hx)] at h
  exact absurd h (by decide)

/-- What the precondition says of one set of arguments. -/
theorem real_of_fn (x : FVec Ideal S8192x64 .f32) (G : FVec Ideal S8192x8192 .f32) (W1 : FVec Ideal S64x64 .f32)
    (q1 k1 : FVec Ideal S64x32 .f32) (b1 : FVec Ideal S64 .f32) (W2 : FVec Ideal S64x64 .f32) (q2 k2 : FVec Ideal S64x32 .f32)
    (b2 : FVec Ideal S64 .f32) (h : fn (F := Ideal) x G W1 q1 k1 b1 W2 q2 k2 b2 = fun _ => 1#1) :
    (∀ i, ∃ r : ℝ, x i = (r : EReal)) ∧ (∀ i, ∃ r : ℝ, W1 i = (r : EReal)) ∧ (∀ i, ∃ r : ℝ, q1 i = (r : EReal))
      ∧ (∀ i, ∃ r : ℝ, k1 i = (r : EReal)) ∧ (∀ i, ∃ r : ℝ, b1 i = (r : EReal)) ∧ (∀ i, ∃ r : ℝ, q2 i = (r : EReal))
      ∧ (∀ i, ∃ r : ℝ, k2 i = (r : EReal)) := by
  have hand : ∀ a b : BitVec 1, IntOp.andi a b = 1#1 → a = 1#1 ∧ b = 1#1 := by decide
  have e := congrFun h (fun k => k.elim0)
  unfold fn fn_part1 at e
  obtain ⟨e, e7⟩ := hand _ _ e
  obtain ⟨e, e6⟩ := hand _ _ e
  obtain ⟨e, e5⟩ := hand _ _ e
  obtain ⟨e, e4⟩ := hand _ _ e
  obtain ⟨e, e3⟩ := hand _ _ e
  obtain ⟨e1, e2⟩ := hand _ _ e
  exact ⟨real_of_test x _ _ _ _ e1, real_of_test W1 _ _ _ _ e2, real_of_test q1 _ _ _ _ e3, real_of_test k1 _ _ _ _ e4,
    real_of_test b1 _ _ _ _ e5, real_of_test q2 _ _ _ _ e6, real_of_test k2 _ _ _ _ e7⟩

/-- An array of real numbers is a matrix of real numbers. -/
theorem isReal_mat {a b : ℕ} (x : FVec Ideal ⟨2, ![a, b]⟩ .f32) (h : ∀ i, ∃ r : ℝ, x i = (r : EReal)) : IsReal (mat x) := by
  choose r hr using h
  exact ⟨fun i j => r (ix2 i j), fun i j => hr _⟩

end Cert.Pre_finite.Attn

end
-- ==== Proof.KI.Table.lean ====
/-
  The packing table, a constant of the program: powers of two on sixteen blocks of sixteen columns.
-/
module

public import proofs.«01_k».proof.Proof.Gen.KernelIdeal.Launch
public import proofs.«01_k».proof.Proof.Math.Mat

@[expose] public section

set_option maxRecDepth 16384

noncomputable section

namespace Cert.KernelIdeal.Attn

open Cert.KernelIdeal Cert.KernelIdeal.Gen
open Idealize.ShloMosaic Idealize.ShloMosaic.TcCoe
open Cert.Attn

/-- The table's words, entry by entry. -/
theorem lit0_eq : ∀ n : Fin 4096, lit0 n = if n.val % 256 / 16 = n.val / 256 then BitVec.ofNat 32 (0x3F800000 + n.val % 16 * 0x800000) else 0#32 := by
  decide +kernel

/-- The word of the power of two with exponent `e`. -/
theorem ofBits_pow (e : Fin 16) : Ideal.ofBits .f32 (BitVec.ofNat 32 (0x3F800000 + e.val * 0x800000)) = (((2 ^ e.val : ℕ) : ℝ) : EReal) := by
  fin_cases e <;> simp [Ideal.ofBits, Ideal.ieee, -EReal.coe_mul] <;> norm_num

/-- The table at an index. -/
theorem table_at (g : Fin 16) (k : Fin 256) :
    (FloatOps.ofBits (F := Ideal) .f32 (lit0 (S16x256.rowMajor (ix2 g k))) : EReal) = (((packEntry g k : ℕ) : ℝ) : EReal) := by
  have hv : (S16x256.rowMajor (ix2 g k)).val = 256 * g.val + k.val := by
    rw [Shape.rowMajor_val_two]
    show g.val * 256 + k.val = 256 * g.val + k.val
    omega
  generalize (S16x256.rowMajor (ix2 g k) : Fin 4096) = n at hv
  rw [lit0_eq n, hv]
  unfold packEntry
  have hk := k.isLt
  have e1 : (256 * g.val + k.val) % 256 / 16 = k.val / 16 := by omega
  have e2 : (256 * g.val + k.val) / 256 = g.val := by omega
  have e3 : (256 * g.val + k.val) % 16 = k.val % 16 := by omega
  rw [e1, e2, e3]
  by_cases h : k.val / 16 = g.val
  · rw [if_pos h, if_pos h]
    exact ofBits_pow ⟨k.val % 16, by omega⟩
  · rw [if_neg h, if_neg h]
    show Ideal.ofBits .f32 0#32 = _
    simp [Ideal.ofBits, Ideal.ieee]

end Cert.KernelIdeal.Attn

end
-- ==== Proof.KI.Entry.lean ====
/-
  What the buffers hold when each call is entered: the arguments, the table of powers of two, the biases as rows, and for
  the second call what the first one left.
-/
module

public import proofs.«01_k».proof.Proof.KI.Run
public import proofs.«01_k».proof.Proof.KI.Table
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.Attn

variable (m : (ℓ : Loc nD τ sig) → Buf (Elt Ideal) ℓ) (c : Dev nD)

/-- An untouched buffer at the first call. -/
theorem stage1_of (r : Ref sig .tc) (h : r ∉ hostOps0_W) : at0 (stage1 m) c r = m ((c : Thread nD τ).loc r) := V1_of m c r h

/-- The table at the first call. -/
theorem stage1_cst (g : Fin 16) (k : Fin 256) :
    (at0 (stage1 m) c main_cst : S16x256.Idx → EReal) (ix2 g k) = (((packEntry g k : ℕ) : ℝ) : EReal) := by
  have h : (at0 (stage1 m) c main_cst : S16x256.Idx → EReal) = fun i => FloatOps.ofBits (F := Ideal) .f32 (lit0 (S16x256.rowMajor i)) := by
    show StableHlo.after hostOps0 (V0 m c) (Proc.devRef .tc main_cst) = _
    after_results
    rfl
  rw [h]
  exact table_at g k

/-- The first bias, as a row. -/
theorem stage1_bias (k : Fin 64) :
    (at0 (stage1 m) c main_v0 : S1x64.Idx → EReal) (ix2 0 k) = (m ((c : Thread nD τ).loc main_arg5) : S64.Idx → EReal) (ix1 k) := by
  have h : (at0 (stage1 m) c main_v0 : S1x64.Idx → EReal)
      = shapeCast S1x64 (V0 m c (Proc.devRef .tc main_arg5) : S64.Idx → EReal) shapeCasts_S64_S1x64 := by
    show StableHlo.after hostOps0 (V0 m c) (Proc.devRef .tc main_v0) = _
    after_results
    rfl
  rw [h]
  generalize hb : (V0 m c (Proc.devRef .tc main_arg5) : S64.Idx → EReal) = b
  have hb' : (m ((c : Thread nD τ).loc main_arg5) : S64.Idx → EReal) = b := hb
  rw [hb']
  pointwise

/-- A buffer the host leaves alone between the calls and the first call does not write. -/
theorem stage3_of (r : Ref sig .tc) (h : r ∉ hostOps1_W) (h0 : r ∉ ([main_v1_0, main_v1_1, main_v1_2] : List (Ref sig .tc)))
    (h' : r ∉ hostOps0_W) : at1 (stage3 m) c r = m ((c : Thread nD τ).loc r) :=
  ((congrFun (V3_eq m c) _).symm.trans ((V3_of m (left m) c r h).trans (V2_of m (left m) c r h0))).trans (V1_of m c r h')

/-- What the second call finds of what the first one left. -/
theorem stage3_left (r : Ref sig .tc) (h : r ∉ hostOps1_W) : at1 (stage3 m) c r = stage2 m c (Proc.devRef .tc r) :=
  ((congrFun (V3_eq m c) _).symm.trans (V3_of m (left m) c r h)).trans (congrFun (V2_eq m c) _)

/-- The second bias, as a row. -/
theorem stage3_bias (k : Fin 64) :
    (at1 (stage3 m) c main_v2 : S1x64.Idx → EReal) (ix2 0 k) = (m ((c : Thread nD τ).loc main_arg9) : S64.Idx → EReal) (ix1 k) := by
  have h : (at1 (stage3 m) c main_v2 : S1x64.Idx → EReal)
      = shapeCast S1x64 (stage2 m c (Proc.devRef .tc main_arg9) : S64.Idx → EReal) shapeCasts_S64_S1x64 := by
    show StableHlo.after hostOps1 (stage2 m c) (Proc.devRef .tc main_v2) = _
    after_results
    rfl
  have hb : (stage2 m c (Proc.devRef .tc main_arg9) : S64.Idx → EReal) = m ((c : Thread nD τ).loc main_arg9) :=
    ((congrFun (V2_eq m c) _).symm.trans (V2_of m (left m) c main_arg9 (by decide))).trans (V1_of m c main_arg9 (by decide))
  rw [h, hb]
  generalize (m ((c : Thread nD τ).loc main_arg9) : S64.Idx → EReal) = b
  pointwise

/-- A buffer neither the second call nor what precedes it writes keeps what the first call left. -/
theorem stage4_left (r : Ref sig .tc) (h0 : r ≠ main_v3_0) (h1 : r ≠ main_v3_1) (h : r ∉ hostOps1_W) :
    stage4 m c (Proc.devRef .tc r) = stage2 m c (Proc.devRef .tc r) :=
  (stage4_of m c _ (StableHlo.devRef_ne_of_ne h0) (StableHlo.devRef_ne_of_ne h1)).trans (stage3_left m c r h)

end Cert.KernelIdeal.Attn

end
-- ==== Proof.KI.Pay.lean ====
/-
  The first call's payloads at an index, as the functions of Math/Layer.lean.
-/
module

public import proofs.«01_k».proof.Proof.KI.Step1
public import proofs.«01_k».proof.Proof.Math.Mat
public import proofs.«01_k».proof.Proof.Consts
public import Idealize.ShloMosaic.Lib.Pointwise
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe
open Cert.Attn

/-! The named constants are what they are named for. -/

theorem scale_eq : Named.named (F := Ideal) κ "scale" (φ := .f32) 0x3E8293EE#32 = ((scale : ℝ) : EReal) :=
  IdealRules.named_const.ideal_named_scalar _ _ _ _ rfl
theorem mask_eq : Named.named (F := Ideal) κ "mask" (φ := .f32) 0xCE6E6B28#32 = (⊥ : EReal) :=
  IdealRules.named_const.ideal_named_scalar _ _ _ _ rfl

theorem coord0_lt (i : grid0.Coords) : (i 0).val < 32 := (i 0).isLt
/-- The row of the whole problem that is row `r` of the point's block. -/
def row0 (i : grid0.Coords) (r : Fin 256) : Fin 8192 := ⟨256 * (i 0).val + r.val, by have := coord0_lt i; omega⟩

theorem rows0_at (i : grid0.Coords) (X : FVec Ideal S8192x64 .f32) (r : Fin 256) (j : Fin 64) :
    rows0 (F := Ideal) i X (ix2 r j) = X (ix2 (row0 i r) j) := by
  refine View.ld_unit_apply_of (Val := Elt Ideal) (e := .f32) X _ _ _ _ _ fun a => ?_
  have e0 : k0_off1 i 0 = 256 * (i 0).val := congrFun (k0_off1_eq i) 0
  have e1 : k0_off1 i 1 = 0 := congrFun (k0_off1_eq i) 1
  fin_cases a
  · show (row0 i r).val = k0_off1 i 0 + r.val
    rw [e0]; rfl
  · show j.val = k0_off1 i 1 + j.val
    rw [e1, Nat.zero_add]

/-- The projected features. -/
theorem pay3_at (X : FVec Ideal S8192x64 .f32) (W : FVec Ideal S64x64 .f32) (b : FVec Ideal S1x64 .f32) (r : Fin 8192) (j : Fin 64) :
    k0_pay3 (F := Ideal) X W b (ix2 r j) = hidden (mat X) (mat W) (fun c => b (ix2 0 c)) r j := by
  pointwise [k0_pay3]
  rfl

/-- The transposed keys. -/
theorem pay4_at (X : FVec Ideal S8192x64 .f32) (W : FVec Ideal S64x32 .f32) (r : Fin 32) (j : Fin 8192) :
    k0_pay4 (F := Ideal) X W (ix2 r j) = ∑ d, W (ix2 d r) * X (ix2 j d) := by
  pointwise [k0_pay4]

/-- The kernel's test for the diagonal, on words. -/
theorem diag_iff (a : ℕ) (ha : a < 32) (r : Fin 256) (j : Fin 8192) :
    BitVec.ofNat 32 j.val - BitVec.ofNat 32 r.val = BitVec.ofNat 32 a * 256#32 ↔ 256 * a + r.val = j.val := by
  have hr := r.isLt
  have hj := j.isLt
  rw [show BitVec.ofNat 32 a * 256#32 = BitVec.ofNat 32 (256 * a) by rw [Nat.mul_comm, BitVec.ofNat_mul]]
  constructor
  · intro h
    have h2 : BitVec.ofNat 32 j.val = BitVec.ofNat 32 (256 * a) + BitVec.ofNat 32 r.val := by
      rw [← h, BitVec.sub_add_cancel]
    rw [← BitVec.ofNat_add] at h2
    have h3 := congrArg BitVec.toNat h2
    rw [BitVec.toNat_ofNat, BitVec.toNat_ofNat, Nat.mod_eq_of_lt (by omega), Nat.mod_eq_of_lt (by omega)] at h3
    exact h3.symm
  · intro h
    rw [← h, BitVec.ofNat_add, BitVec.add_sub_cancel]

/-- The mask's bit is set exactly for the pairs that attend. -/
theorem pay5_at (i : grid0.Coords) (G : FVec Ideal S256x8192 .f32) (A : Mat 8192 8192)
    (hG : ∀ r j, G (ix2 r j) = A (row0 i r) j) (r : Fin 256) (j : Fin 8192) :
    k0_pay5 (F := Ideal) i G (ix2 r j) = BitVec.ofBool (decide (adj thr A (row0 i r) j)) := by
  pointwise [k0_pay5]
  rw [hG r j]
  have hd := diag_iff (i 0).val (coord0_lt i) r j
  have hrow : row0 i r = j ↔ 256 * (i 0).val + r.val = j.val := Fin.ext_iff
  have hb : IntOp.cmpi .eq (IntOp.subi (BitVec.ofNat 32 j.val) (BitVec.ofNat 32 r.val)) (Scalar.muli (BitVec.ofNat 32 (i 0).val) 256#32)
      = BitVec.ofBool (decide (row0 i r = j)) := by
    show BitVec.ofBool (BitVec.ofNat 32 j.val - BitVec.ofNat 32 r.val == BitVec.ofNat 32 (i 0).val * 256#32) = _
    rw [beq_eq_decide]
    exact congrArg BitVec.ofBool (decide_eq_decide.2 (hd.trans hrow.symm))
  rw [hb]
  show BitVec.ofBool _ ||| BitVec.ofBool _ = _
  rw [BitVec.ofBool_or_ofBool]
  unfold adj
  exact congrArg BitVec.ofBool (Bool.decide_or _ _).symm

/-- The masked scores of a block. -/
theorem scores0_at (i : grid0.Coords) (G : FVec Ideal S256x8192 .f32) (A : Mat 8192 8192)
    (hG : ∀ r j, G (ix2 r j) = A (row0 i r) j) (X : FVec Ideal S8192x64 .f32) (Wq Wk : FVec Ideal S64x32 .f32)
    (r : Fin 256) (j : Fin 8192) :
    scores0 (F := Ideal) i G Wq X (k0_pay4 (F := Ideal) X Wk) (ix2 r j) = maskedTwo (adj thr A) (mat X) (mat Wq) (mat Wk) (row0 i r) j := by
  unfold scores0
  generalize hK : k0_pay4 (F := Ideal) X Wk = K
  generalize hX : rows0 (F := Ideal) i X = Y
  have hY : ∀ x, Y (ix2 r x) = X (ix2 (row0 i r) x) := fun x => by rw [← hX]; exact rows0_at i X r x
  have hT : ∀ x, K (ix2 x j) = ∑ d, Wk (ix2 d x) * X (ix2 j d) := fun x => by rw [← hK]; exact pay4_at X Wk x j
  pointwise [k0_pay7]
  rw [pay5_at i G A hG, scale_eq, mask_eq, ofBits_slope]
  simp only [hY, hT]
  unfold maskedTwo scoreTwo
  by_cases h : adj thr A (row0 i r) j
  · rw [if_pos h]
    simp only [h, Scalar.select, decide_true, BitVec.ofBool_true, if_true]
  · rw [if_neg h]
    simp [h, Scalar.select]

/-- The attention weights of a block. -/
theorem pay1_at (v : FVec Ideal S256x8192 .f32) (r : Fin 256) (j : Fin 8192) :
    k0_pay1 (F := Ideal) v (ix2 r j) = normed (expTwo fun k => v (ix2 r k)) j := by
  pointwise [k0_pay1]
  rw [ofBits_bot]
  rfl

/-- The new features of a block. -/
theorem pay2_at (Y : FVec Ideal S256x64 .f32) (H : FVec Ideal S8192x64 .f32) (v : FVec Ideal S256x8192 .f32) (r : Fin 256) (j : Fin 64) :
    k0_pay2 (F := Ideal) Y H v (ix2 r j) = max (Y (ix2 r j) + ∑ x, k0_pay1 (F := Ideal) v (ix2 r x) * H (ix2 x j)) 0 := by
  pointwise [k0_pay2]

/-- The packed mask of a block: in each word, the bits of sixteen rows. -/
theorem pay6_at (i : grid0.Coords) (G : FVec Ideal S256x8192 .f32) (A : Mat 8192 8192)
    (hG : ∀ r j, G (ix2 r j) = A (row0 i r) j) (P : FVec Ideal S16x256 .f32)
    (hP : ∀ g k, P (ix2 g k) = (((packEntry g k : ℕ) : ℝ) : EReal)) (g : Fin 16) (j : Fin 8192) :
    k0_pay6 (F := Ideal) i G P (ix2 g j)
      = (((maskWord (adj thr A) ⟨16 * (i 0).val + g.val, by have := coord0_lt i; omega⟩ j : ℕ) : ℝ) : EReal) := by
  pointwise [k0_pay6]
  have hx : ∀ x : Fin 256, P (ix2 g x) * FloatOps.sitofp (F := Ideal) FTy.f32 (BitVec.setWidth 32 (k0_pay5 (F := Ideal) i G (ix2 x j)))
      = (((packEntry g x * (decide (adj thr A (row0 i x) j)).toNat : ℕ) : ℝ) : EReal) := by
    intro x
    rw [hP, pay5_at i G A hG]
    show _ * ((((BitVec.setWidth 32 (BitVec.ofBool (decide (adj thr A (row0 i x) j)))).toInt : ℤ) : ℝ) : EReal) = _
    rw [← EReal.coe_mul]
    congr 1
    by_cases h : adj thr A (row0 i x) j <;> simp [h]
  rw [Finset.sum_congr rfl fun x _ => hx x, ← coe_sum, ← Nat.cast_sum, sum_packEntry]
  unfold maskWord
  congr 4
  funext s
  congr 2
  refine Fin.ext ?_
  show 256 * (i 0).val + (16 * g.val + s.val) = 16 * (16 * (i 0).val + g.val) + s.val
  omega

end Cert.KernelIdeal.Attn

end
-- ==== Proof.KI.Blocks0.lean ====
/-
  The blocks of the first call's windows, and what its three results hold at the end.
-/
module

public import proofs.«01_k».proof.Proof.KI.Pay
public import proofs.«01_k».proof.Proof.KI.Region0
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe
open Cert.Attn

/-- Which block of its array each window holds at a point. -/
theorem idx0 : ∀ t : Fin cfg0.N, win0_0.index t = ![(grid0.coords t 0).val, 0] ∧ win0_1.index t = ![0, 0] ∧ win0_2.index t = ![0, 0]
    ∧ win0_3.index t = ![0, 0] ∧ win0_4.index t = ![0, 0] ∧ win0_5.index t = ![0, 0] ∧ win0_6.index t = ![(grid0.coords t 0).val, 0]
    ∧ win0_7.index t = ![(grid0.coords t 0).val, 0] ∧ win0_8.index t = ![(grid0.coords t 0).val, 0] :=
  (by decide +kernel : ∀ t : Fin grid0.N, _)

variable (V : (c : Dev nD) → Valuation τ sig (Elt Ideal)) (c : Dev nD) (t : Fin cfg0.N)

/-- A point's block of `G` holds that point's rows. -/
theorem blk0_0 (r : Fin 256) (j : Fin 8192) :
    (blk0 V c 0 t : S256x8192.Idx → EReal) (ix2 r j) = (at0 V c main_arg1 : S8192x8192.Idx → EReal) (ix2 (row0 (grid0.coords t) r) j) := by
  blk_simp [blk0, idx0 t]
  blk_ext [idx0 t, row0]

/-- Every point's block of the first layer's matrix is the whole matrix. -/
theorem blk0_1 : (blk0 V c 1 t : S64x64.Idx → EReal) = at0 V c main_arg2 := by
  funext y
  blk_simp [blk0, idx0 t]
  blk_ext [idx0 t]

/-- So are the blocks of the query matrix, … -/
theorem blk0_2 : (blk0 V c 2 t : S64x32.Idx → EReal) = at0 V c main_arg3 := by
  funext y
  blk_simp [blk0, idx0 t]
  blk_ext [idx0 t]

/-- … of the key matrix, … -/
theorem blk0_3 : (blk0 V c 3 t : S64x32.Idx → EReal) = at0 V c main_arg4 := by
  funext y
  blk_simp [blk0, idx0 t]
  blk_ext [idx0 t]

/-- … of the bias row … -/
theorem blk0_4 : (blk0 V c 4 t : S1x64.Idx → EReal) = at0 V c main_v0 := by
  funext y
  blk_simp [blk0, idx0 t]
  blk_ext [idx0 t]

/-- … and of the table of powers of two. -/
theorem blk0_5 : (blk0 V c 5 t : S16x256.Idx → EReal) = at0 V c main_cst := by
  funext y
  blk_simp [blk0, idx0 t]
  blk_ext [idx0 t]

/-- The graph the call reads, as a relation. -/
abbrev mA := adj thr (mat (at0 V c main_arg1 : S8192x8192.Idx → EReal))
/-- The features the call reads. -/
abbrev mX := mat (at0 V c main_arg0 : S8192x64.Idx → EReal)
/-- The layer's matrix the call reads. -/
abbrev mW := mat (at0 V c main_arg2 : S64x64.Idx → EReal)
/-- The query matrix the call reads. -/
abbrev mQ := mat (at0 V c main_arg3 : S64x32.Idx → EReal)
/-- The key matrix the call reads. -/
abbrev mK := mat (at0 V c main_arg4 : S64x32.Idx → EReal)
/-- The bias the call reads. -/
abbrev mB : Fin 64 → EReal := fun k => (at0 V c main_v0 : S1x64.Idx → EReal) (ix2 0 k)

/-- A point's masked scores are its rows of the layer's. -/
theorem scores0_eq (r : Fin 256) (j : Fin 8192) :
    scores0 (F := Ideal) (grid0.coords t) (blk0 V c 0 t) (blk0 V c 2 t) (feat0 V c) (keys0 V c) (ix2 r j)
      = maskedTwo (mA V c) (mX V c) (mQ V c) (mK V c) (row0 (grid0.coords t) r) j := by
  unfold keys0
  rw [blk0_2, blk0_3]
  exact scores0_at (grid0.coords t) (blk0 V c 0 t) (mat (at0 V c main_arg1 : S8192x8192.Idx → EReal)) (fun r j => blk0_0 V c t r j)
    (at0 V c main_arg0) (at0 V c main_arg3) (at0 V c main_arg4) r j

/-- A point's weights are its rows of the layer's weights. -/
theorem weights0_at (r : Fin 256) (j : Fin 8192) :
    weights0 V c t (ix2 r j) = attTwo (mA V c) (mX V c) (mQ V c) (mK V c) (row0 (grid0.coords t) r) j := by
  unfold weights0
  rw [pay1_at]
  simp only [scores0_eq]
  rfl

/-- A point's rows of the layer's output. -/
theorem rowsOut0_at (r : Fin 256) (j : Fin 64) :
    rowsOut0 V c t (ix2 r j) = relu (mixed (attTwo (mA V c) (mX V c) (mQ V c) (mK V c)) (mX V c) (mW V c) (mB V c))
      (row0 (grid0.coords t) r) j := by
  unfold rowsOut0
  rw [pay2_at]
  have h : ∀ x, k0_pay1 (F := Ideal) (scores0 (F := Ideal) (grid0.coords t) (blk0 V c 0 t) (blk0 V c 2 t) (feat0 V c) (keys0 V c)) (ix2 r x)
      = attTwo (mA V c) (mX V c) (mQ V c) (mK V c) (row0 (grid0.coords t) r) x := weights0_at V c t r
  simp only [h]
  rw [rows0_at]
  unfold proj0
  rw [blk0_1, blk0_4]
  simp only [pay3_at]
  rfl

/-- A point's packed words are its groups of rows of the graph's. -/
theorem packed0_at (hP : ∀ g k, (at0 V c main_cst : S16x256.Idx → EReal) (ix2 g k) = (((packEntry g k : ℕ) : ℝ) : EReal))
    (g : Fin 16) (j : Fin 8192) (R : Fin 512) (hR : R.val = 16 * (grid0.coords t 0).val + g.val) :
    packed0 V c t (ix2 g j) = (((maskWord (mA V c) R j : ℕ) : ℝ) : EReal) := by
  unfold packed0
  rw [blk0_5, pay6_at (grid0.coords t) (blk0 V c 0 t) (mat (at0 V c main_arg1 : S8192x8192.Idx → EReal)) (fun r j => blk0_0 V c t r j) _ hP g j]
  have h : (⟨16 * (grid0.coords t 0).val + g.val, by have := coord0_lt (grid0.coords t); omega⟩ : Fin 512) = R := Fin.ext hR.symm
  rw [← h]

/-- The weights after the whole call. -/
theorem final0_6 : ((dat0 V c).arrAt 6 cfg0.N : S8192x8192.Idx → EReal)
    = fun i => attTwo (mA V c) (mX V c) (mQ V c) (mK V c) (i 0) (i 1) := by
  refine (dat0 V c).arrAt_eq_of_covers 6 _ (by decide +kernel) fun t _ y => ?_
  have h0 : ((((cfg0.win 6).blk t).view.emb y) 0 : ℕ) = 256 * (grid0.coords t 0).val + (y 0).val := by blk_simp [idx0 t]; omega
  have h1 : ((((cfg0.win 6).blk t).view.emb y) 1 : ℕ) = (y 1).val := by blk_simp [idx0 t]
  generalize ((cfg0.win 6).blk t).view.emb y = e at h0 h1
  blk_simp
  rw [after0_6]
  idx_vars y
  rw [weights0_at]
  have e0 : row0 (grid0.coords t) y0 = e 0 := Fin.ext h0.symm
  have e1 : y1 = e 1 := Fin.ext h1.symm
  rw [e0, e1]

/-- The layer's output after the whole call. -/
theorem final0_7 : ((dat0 V c).arrAt 7 cfg0.N : S8192x64.Idx → EReal)
    = fun i => relu (mixed (attTwo (mA V c) (mX V c) (mQ V c) (mK V c)) (mX V c) (mW V c) (mB V c)) (i 0) (i 1) := by
  refine (dat0 V c).arrAt_eq_of_covers 7 _ (by decide +kernel) fun t _ y => ?_
  have h0 : ((((cfg0.win 7).blk t).view.emb y) 0 : ℕ) = 256 * (grid0.coords t 0).val + (y 0).val := by blk_simp [idx0 t]; omega
  have h1 : ((((cfg0.win 7).blk t).view.emb y) 1 : ℕ) = (y 1).val := by blk_simp [idx0 t]
  generalize ((cfg0.win 7).blk t).view.emb y = e at h0 h1
  blk_simp
  rw [after0_7]
  idx_vars y
  rw [rowsOut0_at]
  have e0 : row0 (grid0.coords t) y0 = e 0 := Fin.ext h0.symm
  have e1 : y1 = e 1 := Fin.ext h1.symm
  rw [e0, e1]

/-- The packed graph after the whole call. -/
theorem final0_8 (hP : ∀ g k, (at0 V c main_cst : S16x256.Idx → EReal) (ix2 g k) = (((packEntry g k : ℕ) : ℝ) : EReal)) :
    ((dat0 V c).arrAt 8 cfg0.N : S512x8192.Idx → EReal) = fun i => (((maskWord (mA V c) (i 0) (i 1) : ℕ) : ℝ) : EReal) := by
  refine (dat0 V c).arrAt_eq_of_covers 8 _ (by decide +kernel) fun t _ y => ?_
  have h0 : ((((cfg0.win 8).blk t).view.emb y) 0 : ℕ) = 16 * (grid0.coords t 0).val + (y 0).val := by blk_simp [idx0 t]; omega
  have h1 : ((((cfg0.win 8).blk t).view.emb y) 1 : ℕ) = (y 1).val := by blk_simp [idx0 t]
  generalize ((cfg0.win 8).blk t).view.emb y = e at h0 h1
  blk_simp
  rw [after0_8]
  idx_vars y
  have e1 : y1 = e 1 := Fin.ext h1.symm
  rw [packed0_at V c t hP y0 y1 (e 0) h0, e1]

end Cert.KernelIdeal.Attn

end
-- ==== Proof.KI.Pay1.lean ====
/-
  The second call's payloads at an index, as the functions of Math/Layer.lean.
-/
module

public import proofs.«01_k».proof.Proof.KI.Pay

@[expose] public section

set_option maxRecDepth 16384

noncomputable section

namespace Cert.KernelIdeal.Attn

open Cert.KernelIdeal Cert.KernelIdeal.Gen
open Idealize.ShloMosaic Idealize.ShloMosaic.TcCoe
open Cert.Attn

theorem coord1_lt (i : grid1.Coords) : (i 0).val < 16 := (i 0).isLt
/-- The row of the whole problem that is row `r` of the point's block. -/
def row1 (i : grid1.Coords) (r : Fin 512) : Fin 8192 := ⟨512 * (i 0).val + r.val, by have := coord1_lt i; omega⟩

theorem rows1_at (i : grid1.Coords) (X : FVec Ideal S8192x64 .f32) (r : Fin 512) (j : Fin 64) :
    rows1 (F := Ideal) i X (ix2 r j) = X (ix2 (row1 i r) j) := by
  refine View.ld_unit_apply_of (Val := Elt Ideal) (e := .f32) X _ _ _ _ _ fun a => ?_
  have e0 : k1_off1 i 0 = 512 * (i 0).val := congrFun (k1_off1_eq i) 0
  have e1 : k1_off1 i 1 = 0 := congrFun (k1_off1_eq i) 1
  fin_cases a
  · show (row1 i r).val = k1_off1 i 0 + r.val
    rw [e0]; rfl
  · show j.val = k1_off1 i 1 + j.val
    rw [e1, Nat.zero_add]

/-- The projected features. -/
theorem pay3_at1 (X : FVec Ideal S8192x64 .f32) (W : FVec Ideal S64x64 .f32) (b : FVec Ideal S1x64 .f32) (r : Fin 8192) (j : Fin 64) :
    k1_pay3 (F := Ideal) X W b (ix2 r j) = hidden (mat X) (mat W) (fun c => b (ix2 0 c)) r j := by
  pointwise [k1_pay3]
  rfl

/-- The transposed keys. -/
theorem pay4_at1 (X : FVec Ideal S8192x64 .f32) (W : FVec Ideal S64x32 .f32) (r : Fin 32) (j : Fin 8192) :
    k1_pay4 (F := Ideal) X W (ix2 r j) = ∑ d, W (ix2 d r) * X (ix2 j d) := by
  pointwise [k1_pay4]

/-- The test of a bit of a packed word is the mask at the bit's row. -/
theorem unpack (i : grid1.Coords) (M : Fin 8192 → Fin 8192 → Prop) [∀ i, DecidablePred (M i)] (r : Fin 512) (j : Fin 8192)
    (w : EReal) (hw : w = (((maskWord M ⟨32 * (i 0).val + r.val / 16, by have := coord1_lt i; omega⟩ j : ℕ) : ℝ) : EReal)) :
    IntOp.cmpi .ne (IntOp.andi (FloatOps.fptosi (F := Ideal) (φ := .f32) 32 w) (IntOp.shli ArithUnit.vector 1#32 (BitVec.ofNat 32 (r.val % 16)))) 0#32
      = BitVec.ofBool (decide (M (row1 i r) j)) := by
  have hi := coord1_lt i
  subst hw
  have h1 : FloatOps.fptosi (F := Ideal) (φ := .f32) 32 (((maskWord M ⟨32 * (i 0).val + r.val / 16, by omega⟩ j : ℕ) : ℝ) : EReal)
      = BitVec.ofNat 32 (maskWord M ⟨32 * (i 0).val + r.val / 16, by omega⟩ j) := fptosi_nat _ (maskWord_lt M _ j)
  have h2 : IntOp.shli ArithUnit.vector 1#32 (BitVec.ofNat 32 (r.val % 16)) = 1#32 <<< (BitVec.ofNat 32 (r.val % 16)).toNat :=
    if_pos (by rw [BitVec.toNat_ofNat, Nat.mod_eq_of_lt (by omega)]; omega)
  rw [h1, h2]
  refine congrArg BitVec.ofBool (Bool.eq_iff_iff.2 ?_)
  rw [bne_iff_ne, decide_eq_true_iff]
  refine (and_shift_ne_zero _ ⟨r.val % 16, by omega⟩).trans ?_
  unfold maskWord
  rw [testBit_digits, decide_eq_true_iff]
  have hr : (⟨16 * (32 * (i 0).val + r.val / 16) + r.val % 16, by omega⟩ : Fin 8192) = row1 i r :=
    Fin.ext (by show 16 * (32 * (i 0).val + r.val / 16) + r.val % 16 = 512 * (i 0).val + r.val; omega)
  show M ⟨16 * (32 * (i 0).val + r.val / 16) + r.val % 16, _⟩ j ↔ _
  rw [hr]

/-- The exponentials of a block. -/
theorem exps1_at (i : grid1.Coords) (B : FVec Ideal S32x8192 .f32) (M : Fin 8192 → Fin 8192 → Prop) [∀ i, DecidablePred (M i)]
    (hB : ∀ (R : Fin 32) j, B (ix2 R j) = (((maskWord M ⟨32 * (i 0).val + R.val, by have := coord1_lt i; omega⟩ j : ℕ) : ℝ) : EReal))
    (X : FVec Ideal S8192x64 .f32) (Wq Wk : FVec Ideal S64x32 .f32) (r : Fin 512) (j : Fin 8192) :
    exps1 (F := Ideal) i B Wq X (k1_pay4 (F := Ideal) X Wk) (ix2 r j) = expTwo (maskedTwo M (mat X) (mat Wq) (mat Wk) (row1 i r)) j := by
  unfold exps1
  generalize hK : k1_pay4 (F := Ideal) X Wk = K
  generalize hX : rows1 (F := Ideal) i X = Y
  have hY : ∀ x, Y (ix2 r x) = X (ix2 (row1 i r) x) := fun x => by rw [← hX]; exact rows1_at i X r x
  have hT : ∀ x j, K (ix2 x j) = ∑ d, Wk (ix2 d x) * X (ix2 j d) := fun x j => by rw [← hK]; exact pay4_at1 X Wk x j
  pointwise [k1_pay5]
  rw [scale_eq, mask_eq, ofBits_slope, ofBits_bot]
  simp only [hY, hT]
  have hu := fun j => unpack i M r j _ (hB ⟨r.val / 16, by omega⟩ j)
  simp only [hu]
  have hm : ∀ j, Scalar.select (BitVec.ofBool (decide (M (row1 i r) j)))
      (max (scoreTwo (mat X) (mat Wq) (mat Wk) (row1 i r) j) (scoreTwo (mat X) (mat Wq) (mat Wk) (row1 i r) j * ((Attn.slope : ℝ) : EReal))) (⊥ : EReal)
      = maskedTwo M (mat X) (mat Wq) (mat Wk) (row1 i r) j := by
    intro j
    unfold maskedTwo
    by_cases h : M (row1 i r) j
    · rw [if_pos h]; simp only [h, Scalar.select, decide_true, BitVec.ofBool_true, if_true]
    · rw [if_neg h]; simp [h, Scalar.select]
  have hf : maskedTwo M (mat X) (mat Wq) (mat Wk) (row1 i r) = fun j => Scalar.select (BitVec.ofBool (decide (M (row1 i r) j)))
      (max (scoreTwo (mat X) (mat Wq) (mat Wk) (row1 i r) j) (scoreTwo (mat X) (mat Wq) (mat Wk) (row1 i r) j * ((Attn.slope : ℝ) : EReal))) (⊥ : EReal) :=
    funext fun j => (hm j).symm
  rw [hf]
  rfl

/-- The attention weights of a block. -/
theorem pay1_at1 (v : FVec Ideal S512x8192 .f32) (r : Fin 512) (j : Fin 8192) :
    k1_pay1 (F := Ideal) v (ix2 r j) = normed (fun k => v (ix2 r k)) j := by
  pointwise [k1_pay1]
  rfl

/-- The new features of a block. -/
theorem pay2_at1 (Y : FVec Ideal S512x64 .f32) (H : FVec Ideal S8192x64 .f32) (v : FVec Ideal S512x8192 .f32) (r : Fin 512) (j : Fin 64) :
    k1_pay2 (F := Ideal) Y H v (ix2 r j) = Y (ix2 r j) + ∑ x, k1_pay1 (F := Ideal) v (ix2 r x) * H (ix2 x j) := by
  pointwise [k1_pay2]

end Cert.KernelIdeal.Attn

end
-- ==== Proof.KI.Blocks1.lean ====
/-
  The blocks of the second call's windows, and what its two results hold at the end when the packed graph it reads holds
  the words of a relation.
-/
module

public import proofs.«01_k».proof.Proof.KI.Pay1
public import proofs.«01_k».proof.Proof.KI.Region1
public import Idealize.ShloMosaic.Lib.Pipeline.ValueKit

@[expose] public section

set_option maxRecDepth 16384

noncomputable section

namespace Cert.KernelIdeal.Attn

open Cert.KernelIdeal Cert.KernelIdeal.Gen
open Idealize.ShloMosaic Idealize.ShloMosaic.TcCoe
open Cert.Attn

/-- Which block of its array each window holds at a point. -/
theorem idx1 : ∀ t : Fin cfg1.N, win1_0.index t = ![(grid1.coords t 0).val, 0] ∧ win1_1.index t = ![0, 0] ∧ win1_2.index t = ![0, 0]
    ∧ win1_3.index t = ![0, 0] ∧ win1_4.index t = ![0, 0] ∧ win1_5.index t = ![(grid1.coords t 0).val, 0]
    ∧ win1_6.index t = ![(grid1.coords t 0).val, 0] :=
  (by decide +kernel : ∀ t : Fin grid1.N, _)

variable (V : (c : Dev nD) → Valuation τ sig (Elt Ideal)) (c : Dev nD) (t : Fin cfg1.N)

/-- A point's block of the packed graph holds the words of that point's rows. -/
theorem blk1_0 (M : Fin 8192 → Fin 8192 → Prop) [∀ i, DecidablePred (M i)]
    (hM : (at1 V c main_v1_2 : S512x8192.Idx → EReal) = fun i => (((maskWord M (i 0) (i 1) : ℕ) : ℝ) : EReal))
    (R : Fin 32) (j : Fin 8192) (k : Fin 512) (hk : k.val = 32 * (grid1.coords t 0).val + R.val) :
    (blk1 V c 0 t : S32x8192.Idx → EReal) (ix2 R j) = (((maskWord M k j : ℕ) : ℝ) : EReal) := by
  have h : (blk1 V c 0 t : S32x8192.Idx → EReal) (ix2 R j) = (at1 V c main_v1_2 : S512x8192.Idx → EReal) (ix2 k j) := by
    blk_simp [blk1, idx1 t]
    blk_ext [idx1 t]
  rw [h, hM]
  rfl

/-- Every point's block of the second layer's matrix is the whole matrix. -/
theorem blk1_1 : (blk1 V c 1 t : S64x64.Idx → EReal) = at1 V c main_arg6 := by
  funext y
  blk_simp [blk1, idx1 t]
  blk_ext [idx1 t]

/-- So are the blocks of the query matrix, … -/
theorem blk1_2 : (blk1 V c 2 t : S64x32.Idx → EReal) = at1 V c main_arg7 := by
  funext y
  blk_simp [blk1, idx1 t]
  blk_ext [idx1 t]

/-- … of the key matrix … -/
theorem blk1_3 : (blk1 V c 3 t : S64x32.Idx → EReal) = at1 V c main_arg8 := by
  funext y
  blk_simp [blk1, idx1 t]
  blk_ext [idx1 t]

/-- … and of the bias row. -/
theorem blk1_4 : (blk1 V c 4 t : S1x64.Idx → EReal) = at1 V c main_v2 := by
  funext y
  blk_simp [blk1, idx1 t]
  blk_ext [idx1 t]

/-- The features the call reads. -/
abbrev nX := mat (at1 V c main_v1_1 : S8192x64.Idx → EReal)
/-- The layer's matrix the call reads. -/
abbrev nW := mat (at1 V c main_arg6 : S64x64.Idx → EReal)
/-- The query matrix the call reads. -/
abbrev nQ := mat (at1 V c main_arg7 : S64x32.Idx → EReal)
/-- The key matrix the call reads. -/
abbrev nK := mat (at1 V c main_arg8 : S64x32.Idx → EReal)
/-- The bias the call reads. -/
abbrev nB : Fin 64 → EReal := fun k => (at1 V c main_v2 : S1x64.Idx → EReal) (ix2 0 k)

variable (M : Fin 8192 → Fin 8192 → Prop) [∀ i, DecidablePred (M i)]
    (hM : (at1 V c main_v1_2 : S512x8192.Idx → EReal) = fun i => (((maskWord M (i 0) (i 1) : ℕ) : ℝ) : EReal))

include hM

/-- A point's exponentials are its rows of the layer's. -/
theorem exps1_eq (r : Fin 512) (j : Fin 8192) :
    exps1 (F := Ideal) (grid1.coords t) (blk1 V c 0 t) (blk1 V c 2 t) (feat1 V c) (keys1 V c) (ix2 r j)
      = expTwo (maskedTwo M (nX V c) (nQ V c) (nK V c) (row1 (grid1.coords t) r)) j := by
  unfold keys1
  rw [blk1_2, blk1_3]
  exact exps1_at (grid1.coords t) (blk1 V c 0 t) M (fun R j => blk1_0 V c t M hM R j _ rfl)
    (at1 V c main_v1_1) (at1 V c main_arg7) (at1 V c main_arg8) r j

/-- A point's weights are its rows of the layer's weights. -/
theorem weights1_at (r : Fin 512) (j : Fin 8192) :
    weights1 V c t (ix2 r j) = attTwo M (nX V c) (nQ V c) (nK V c) (row1 (grid1.coords t) r) j := by
  unfold weights1
  rw [pay1_at1]
  simp only [exps1_eq V c t M hM]
  rfl

/-- A point's rows of the layer's output. -/
theorem rowsOut1_at (r : Fin 512) (j : Fin 64) :
    rowsOut1 V c t (ix2 r j) = mixed (attTwo M (nX V c) (nQ V c) (nK V c)) (nX V c) (nW V c) (nB V c)
      (row1 (grid1.coords t) r) j := by
  unfold rowsOut1
  rw [pay2_at1]
  have h : ∀ x, k1_pay1 (F := Ideal) (exps1 (F := Ideal) (grid1.coords t) (blk1 V c 0 t) (blk1 V c 2 t) (feat1 V c) (keys1 V c)) (ix2 r x)
      = attTwo M (nX V c) (nQ V c) (nK V c) (row1 (grid1.coords t) r) x := weights1_at V c t M hM r
  simp only [h]
  rw [rows1_at]
  unfold proj1
  rw [blk1_1, blk1_4]
  simp only [pay3_at1]
  rfl

/-- The weights after the whole call. -/
theorem final1_5 : ((dat1 V c).arrAt 5 cfg1.N : S8192x8192.Idx → EReal)
    = fun i => attTwo M (nX V c) (nQ V c) (nK V c) (i 0) (i 1) := by
  refine (dat1 V c).arrAt_eq_of_covers 5 _ (by decide +kernel) fun t _ y => ?_
  have h0 : ((((cfg1.win 5).blk t).view.emb y) 0 : ℕ) = 512 * (grid1.coords t 0).val + (y 0).val := by blk_simp [idx1 t]; omega
  have h1 : ((((cfg1.win 5).blk t).view.emb y) 1 : ℕ) = (y 1).val := by blk_simp [idx1 t]
  generalize ((cfg1.win 5).blk t).view.emb y = e at h0 h1
  blk_simp
  rw [after1_5]
  idx_vars y
  rw [weights1_at V c t M hM]
  have e0 : row1 (grid1.coords t) y0 = e 0 := Fin.ext h0.symm
  have e1 : y1 = e 1 := Fin.ext h1.symm
  rw [e0, e1]

/-- The layer's output after the whole call. -/
theorem final1_6 : ((dat1 V c).arrAt 6 cfg1.N : S8192x64.Idx → EReal)
    = fun i => mixed (attTwo M (nX V c) (nQ V c) (nK V c)) (nX V c) (nW V c) (nB V c) (i 0) (i 1) := by
  refine (dat1 V c).arrAt_eq_of_covers 6 _ (by decide +kernel) fun t _ y => ?_
  have h0 : ((((cfg1.win 6).blk t).view.emb y) 0 : ℕ) = 512 * (grid1.coords t 0).val + (y 0).val := by blk_simp [idx1 t]; omega
  have h1 : ((((cfg1.win 6).blk t).view.emb y) 1 : ℕ) = (y 1).val := by blk_simp [idx1 t]
  generalize ((cfg1.win 6).blk t).view.emb y = e at h0 h1
  blk_simp
  rw [after1_6]
  idx_vars y
  rw [rowsOut1_at V c t M hM]
  have e0 : row1 (grid1.coords t) y0 = e 0 := Fin.ext h0.symm
  have e1 : y1 = e 1 := Fin.ext h1.symm
  rw [e0, e1]

end Cert.KernelIdeal.Attn

end
-- ==== Proof.Layers.lean ====
/-
  One layer as the program computes it and as the reference does: equal on real arguments.
-/
module

public import proofs.«01_k».proof.Proof.RefRun
public import Idealize.ShloMosaic.Lib.Pipeline.ValueKit

@[expose] public section

set_option maxRecDepth 16384

noncomputable section

namespace Cert.ReferenceIdeal.Attn

open Idealize.ShloMosaic
open Cert.ReferenceIdeal
open Cert.Attn

/-- Every node attends to itself. -/
theorem self_adj (G : Mat 8192 8192) (i : Fin 8192) : adj thr G i i := Or.inr rfl

variable (G : FVec Ideal S8192x8192 .f32) (X : FVec Ideal S8192x64 .f32) (W : FVec Ideal S64x64 .f32) (Q K : FVec Ideal S64x32 .f32)
    (b : FVec Ideal S64 .f32) (hX : IsReal (mat X)) (hQ : IsReal (mat Q)) (hK : IsReal (mat K))

/-- The reference's attention matrix, as a matrix. -/
theorem mat_attT : mat (attT G X Q K) = att (adj thr (mat G)) (mat X) (mat Q) (mat K) := by
  funext i j
  exact attT_at G X Q K i j

include hX hQ hK

/-- The program's attention matrix is the reference's. -/
theorem attTwo_eq : (fun i => attTwo (adj thr (mat G)) (mat X) (mat Q) (mat K) (i 0) (i 1) : S8192x8192.Idx → EReal) = attT G X Q K := by
  funext i
  idx_vars i
  rw [attTwo_eq_att (self_adj (mat G)) hX hQ hK, attT_at]

/-- A layer's features before the activation. -/
theorem mixedTwo_eq : (fun i => mixed (attTwo (adj thr (mat G)) (mat X) (mat Q) (mat K)) (mat X) (mat W) (vec b) (i 0) (i 1) : S8192x64.Idx → EReal)
    = mixedT (attT G X Q K) X W b := by
  funext i
  idx_vars i
  rw [attTwo_eq_att (self_adj (mat G)) hX hQ hK, mixedT_at, mat_attT]

/-- A layer's features after it. -/
theorem reluTwo_eq : (fun i => relu (mixed (attTwo (adj thr (mat G)) (mat X) (mat Q) (mat K)) (mat X) (mat W) (vec b)) (i 0) (i 1) : S8192x64.Idx → EReal)
    = reluT (mixedT (attT G X Q K) X W b) := by
  rw [attTwo_eq_att (self_adj (mat G)) hX hQ hK]
  funext i
  idx_vars i
  have h : mat (mixedT (attT G X Q K) X W b) = mixed (att (adj thr (mat G)) (mat X) (mat Q) (mat K)) (mat X) (mat W) (vec b) := by
    funext i c
    show mixedT (attT G X Q K) X W b (ix2 i c) = _
    rw [mixedT_at, mat_attT]
  rw [reluT_at, h]

/-- A layer's features are real numbers. -/
theorem reluT_real (hW : IsReal (mat W)) (hb : ∃ r : Fin 64 → ℝ, ∀ k, vec b k = (r k : EReal)) :
    IsReal (mat (reluT (mixedT (attT G X Q K) X W b))) := by
  have h : mat (reluT (mixedT (attT G X Q K) X W b)) = relu (mixed (att (adj thr (mat G)) (mat X) (mat Q) (mat K)) (mat X) (mat W) (vec b)) := by
    funext i c
    rw [← attTwo_eq_att (self_adj (mat G)) hX hQ hK]
    exact (congrFun (reluTwo_eq G X W Q K b hX hQ hK) (ix2 i c)).symm
  rw [h]
  exact mixed_real (att_real (self_adj (mat G)) hX hQ hK) hX hW hb

end Cert.ReferenceIdeal.Attn

end
-- ==== Proof.KI.Result.lean ====
/-
  The program's three results are the reference's functions of the arguments, where these are real numbers.
-/
module

public import proofs.«01_k».proof.Proof.KI.Entry
public import proofs.«01_k».proof.Proof.KI.Blocks0
public import proofs.«01_k».proof.Proof.KI.Blocks1
public import proofs.«01_k».proof.Proof.Layers

@[expose] public section

set_option maxRecDepth 16384

noncomputable section

namespace Cert.KernelIdeal.Attn

open Cert.KernelIdeal Cert.KernelIdeal.Gen
open Idealize.ShloMosaic Idealize.ShloMosaic.TcCoe Idealize.SL.Sem
open Cert.Attn
open Cert.ReferenceIdeal.Attn (attT mixedT reluT)

/-! ## The two calls over named arrays -/

section
variable (V : (c : Dev nD) → Valuation τ sig (Elt Ideal)) (c : Dev nD)
    (G : FVec Ideal S8192x8192 .f32) (X : FVec Ideal S8192x64 .f32) (W : FVec Ideal S64x64 .f32) (Q K : FVec Ideal S64x32 .f32)
    (b : FVec Ideal S64 .f32)

/-- The first call's weights. -/
theorem call0_6 (hG : at0 V c main_arg1 = G) (hX : at0 V c main_arg0 = X) (hQ : at0 V c main_arg3 = Q) (hK : at0 V c main_arg4 = K)
    (rX : IsReal (mat X)) (rQ : IsReal (mat Q)) (rK : IsReal (mat K)) :
    ((dat0 V c).arrAt 6 cfg0.N : S8192x8192.Idx → EReal) = attT G X Q K := by
  subst hG hX hQ hK
  exact (final0_6 V c).trans (Cert.ReferenceIdeal.Attn.attTwo_eq _ _ _ _ rX rQ rK)

/-- The first call's features. -/
theorem call0_7 (hG : at0 V c main_arg1 = G) (hX : at0 V c main_arg0 = X) (hW : at0 V c main_arg2 = W) (hQ : at0 V c main_arg3 = Q)
    (hK : at0 V c main_arg4 = K) (hb : ∀ k, (at0 V c main_v0 : S1x64.Idx → EReal) (ix2 0 k) = b (ix1 k))
    (rX : IsReal (mat X)) (rQ : IsReal (mat Q)) (rK : IsReal (mat K)) :
    ((dat0 V c).arrAt 7 cfg0.N : S8192x64.Idx → EReal) = reluT (mixedT (attT G X Q K) X W b) := by
  subst hG hX hQ hK hW
  have hb' : mB V c = vec b := funext hb
  refine (final0_7 V c).trans ?_
  rw [hb']
  exact Cert.ReferenceIdeal.Attn.reluTwo_eq _ _ _ _ _ b rX rQ rK

/-- The first call's packed graph. -/
theorem call0_8 (hG : at0 V c main_arg1 = G)
    (hP : ∀ g k, (at0 V c main_cst : S16x256.Idx → EReal) (ix2 g k) = (((packEntry g k : ℕ) : ℝ) : EReal)) :
    ((dat0 V c).arrAt 8 cfg0.N : S512x8192.Idx → EReal) = fun i => (((maskWord (adj thr (mat G)) (i 0) (i 1) : ℕ) : ℝ) : EReal) := by
  subst hG
  exact final0_8 V c hP

/-- The second call's weights. -/
theorem call1_5 (hM : (at1 V c main_v1_2 : S512x8192.Idx → EReal) = fun i => (((maskWord (adj thr (mat G)) (i 0) (i 1) : ℕ) : ℝ) : EReal))
    (hX : at1 V c main_v1_1 = X) (hQ : at1 V c main_arg7 = Q) (hK : at1 V c main_arg8 = K)
    (rX : IsReal (mat X)) (rQ : IsReal (mat Q)) (rK : IsReal (mat K)) :
    ((dat1 V c).arrAt 5 cfg1.N : S8192x8192.Idx → EReal) = attT G X Q K := by
  subst hX hQ hK
  exact (final1_5 V c _ hM).trans (Cert.ReferenceIdeal.Attn.attTwo_eq _ _ _ _ rX rQ rK)

/-- The second call's features. -/
theorem call1_6 (hM : (at1 V c main_v1_2 : S512x8192.Idx → EReal) = fun i => (((maskWord (adj thr (mat G)) (i 0) (i 1) : ℕ) : ℝ) : EReal))
    (hX : at1 V c main_v1_1 = X) (hW : at1 V c main_arg6 = W) (hQ : at1 V c main_arg7 = Q) (hK : at1 V c main_arg8 = K)
    (hb : ∀ k, (at1 V c main_v2 : S1x64.Idx → EReal) (ix2 0 k) = b (ix1 k))
    (rX : IsReal (mat X)) (rQ : IsReal (mat Q)) (rK : IsReal (mat K)) :
    ((dat1 V c).arrAt 6 cfg1.N : S8192x64.Idx → EReal) = mixedT (attT G X Q K) X W b := by
  subst hX hQ hK hW
  have hb' : nB V c = vec b := funext hb
  refine (final1_6 V c _ hM).trans ?_
  rw [hb']
  exact Cert.ReferenceIdeal.Attn.mixedTwo_eq _ _ _ _ _ b rX rQ rK

end

/-! ## The program -/

variable (m : (ℓ : Loc nD τ sig) → Buf (Elt Ideal) ℓ) (c : Dev nD)
    (G : FVec Ideal S8192x8192 .f32) (X : FVec Ideal S8192x64 .f32) (W1 : FVec Ideal S64x64 .f32) (Q1 K1 : FVec Ideal S64x32 .f32)
    (b1 : FVec Ideal S64 .f32) (W2 : FVec Ideal S64x64 .f32) (Q2 K2 : FVec Ideal S64x32 .f32) (b2 : FVec Ideal S64 .f32)

/-- The arguments a device starts from. -/
structure Args : Prop where
  x : m ((c : Thread nD τ).loc main_arg0) = X
  g : m ((c : Thread nD τ).loc main_arg1) = G
  w1 : m ((c : Thread nD τ).loc main_arg2) = W1
  q1 : m ((c : Thread nD τ).loc main_arg3) = Q1
  k1 : m ((c : Thread nD τ).loc main_arg4) = K1
  b1 : m ((c : Thread nD τ).loc main_arg5) = b1
  w2 : m ((c : Thread nD τ).loc main_arg6) = W2
  q2 : m ((c : Thread nD τ).loc main_arg7) = Q2
  k2 : m ((c : Thread nD τ).loc main_arg8) = K2
  b2 : m ((c : Thread nD τ).loc main_arg9) = b2

/-- The arguments that must be real numbers are. -/
structure Reals : Prop where
  x : IsReal (mat X)
  w1 : IsReal (mat W1)
  q1 : IsReal (mat Q1)
  k1 : IsReal (mat K1)
  b1 : ∃ r : Fin 64 → ℝ, ∀ k, vec b1 k = (r k : EReal)
  q2 : IsReal (mat Q2)
  k2 : IsReal (mat K2)

variable (a : Args m c G X W1 Q1 K1 b1 W2 Q2 K2 b2) (r : Reals X W1 Q1 K1 b1 Q2 K2)

include a r

/-- The first layer's weights, as the run leaves them. -/
theorem result_weights1 : (stage4 m c (Proc.devRef .tc main_v1_0) : S8192x8192.Idx → EReal) = attT G X Q1 K1 := by
  refine (stage4_left m c main_v1_0 (by decide) (by decide) (by decide)).trans ((stage2_v1_0 m c).trans ?_)
  exact call0_6 (stage1 m) c G X Q1 K1 ((stage1_of m c _ (by decide)).trans a.g) ((stage1_of m c _ (by decide)).trans a.x)
    ((stage1_of m c _ (by decide)).trans a.q1) ((stage1_of m c _ (by decide)).trans a.k1) r.x r.q1 r.k1

/-- The first layer's features, as the second call finds them. -/
theorem entry_features : (at1 (stage3 m) c main_v1_1 : S8192x64.Idx → EReal) = reluT (mixedT (attT G X Q1 K1) X W1 b1) := by
  refine (stage3_left m c main_v1_1 (by decide)).trans ((stage2_v1_1 m c).trans ?_)
  exact call0_7 (stage1 m) c G X W1 Q1 K1 b1 ((stage1_of m c _ (by decide)).trans a.g) ((stage1_of m c _ (by decide)).trans a.x)
    ((stage1_of m c _ (by decide)).trans a.w1) ((stage1_of m c _ (by decide)).trans a.q1) ((stage1_of m c _ (by decide)).trans a.k1)
    (fun k => (stage1_bias m c k).trans (congrFun a.b1 _)) r.x r.q1 r.k1

omit r in
/-- The packed graph, as the second call finds it. -/
theorem entry_packed : (at1 (stage3 m) c main_v1_2 : S512x8192.Idx → EReal)
    = fun i => (((maskWord (adj thr (mat G)) (i 0) (i 1) : ℕ) : ℝ) : EReal) := by
  refine (stage3_left m c main_v1_2 (by decide)).trans ((stage2_v1_2 m c).trans ?_)
  exact call0_8 (stage1 m) c G ((stage1_of m c _ (by decide)).trans a.g) (stage1_cst m c)

/-- The second layer's weights, as the run leaves them. -/
theorem result_weights2 : (stage4 m c (Proc.devRef .tc main_v3_0) : S8192x8192.Idx → EReal)
    = attT G (reluT (mixedT (attT G X Q1 K1) X W1 b1)) Q2 K2 := by
  refine (stage4_v3_0 m c).trans ?_
  exact call1_5 (stage3 m) c G _ Q2 K2 (entry_packed m c G X W1 Q1 K1 b1 W2 Q2 K2 b2 a) (entry_features m c G X W1 Q1 K1 b1 W2 Q2 K2 b2 a r)
    ((stage3_of m c _ (by decide) (by decide) (by decide)).trans a.q2) ((stage3_of m c _ (by decide) (by decide) (by decide)).trans a.k2)
    (Cert.ReferenceIdeal.Attn.reluT_real G X W1 Q1 K1 b1 r.x r.q1 r.k1 r.w1 r.b1) r.q2 r.k2

/-- The second layer's features, as the run leaves them. -/
theorem result_features2 : (stage4 m c (Proc.devRef .tc main_v3_1) : S8192x64.Idx → EReal)
    = mixedT (attT G (reluT (mixedT (attT G X Q1 K1) X W1 b1)) Q2 K2) (reluT (mixedT (attT G X Q1 K1) X W1 b1)) W2 b2 := by
  refine (stage4_v3_1 m c).trans ?_
  exact call1_6 (stage3 m) c G _ W2 Q2 K2 b2 (entry_packed m c G X W1 Q1 K1 b1 W2 Q2 K2 b2 a) (entry_features m c G X W1 Q1 K1 b1 W2 Q2 K2 b2 a r)
    ((stage3_of m c _ (by decide) (by decide) (by decide)).trans a.w2)
    ((stage3_of m c _ (by decide) (by decide) (by decide)).trans a.q2) ((stage3_of m c _ (by decide) (by decide) (by decide)).trans a.k2)
    (fun k => (stage3_bias m c k).trans (congrFun a.b2 _))
    (Cert.ReferenceIdeal.Attn.reluT_real G X W1 Q1 K1 b1 r.x r.q1 r.k1 r.w1 r.b1) r.q2 r.k2

end Cert.KernelIdeal.Attn

end
-- ==== Proof.Value.lean ====
/-
  The value claim: from arguments that agree, the program and the reference end with equal results.
-/
module

public import proofs.«01_k».proof.Defs
public import proofs.«01_k».proof.Proof.Finite
public import proofs.«01_k».proof.Proof.KI.Result

@[expose] public section

set_option maxRecDepth 16384

noncomputable section

namespace Cert.Attn

open Idealize.ShloMosaic Idealize.ShloMosaic.TcCoe Idealize.SL.Sem
open Cert.ReferenceIdeal.Attn (attT mixedT reluT)

/-- The precondition makes the arguments real that must be. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) :
    Cert.KernelIdeal.Attn.Reals (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) := by
  obtain ⟨h0, h2, h3, h4, h5, h7, h8⟩ := Cert.Pre_finite.Attn.real_of_fn _ _ _ _ _ _ _ _ _ _ (h c)
  choose r hr using h5
  exact ⟨Cert.Pre_finite.Attn.isReal_mat _ h0, Cert.Pre_finite.Attn.isReal_mat _ h2, Cert.Pre_finite.Attn.isReal_mat _ h3,
    Cert.Pre_finite.Attn.isReal_mat _ h4, ⟨fun k => r (ix1 k), fun k => hr _⟩, Cert.Pre_finite.Attn.isReal_mat _ h7,
    Cert.Pre_finite.Attn.isReal_mat _ h8⟩

/-- The program and the reference end with equal results. -/
theorem equal : Cert.algebraic_KernelIdeal_ReferenceIdeal_pre_finite := by
  intro m g m' g' hpre hargs
  refine ⟨fun c => Cert.ReferenceIdeal.Attn.out2T m' c, fun c => Cert.ReferenceIdeal.Attn.att1T m' c,
    fun c => Cert.ReferenceIdeal.Attn.att2T m' c, ?_, Cert.ReferenceIdeal.Attn.run_values m' g'⟩
  have hrun := Cert.KernelIdeal.Attn.run_main m g
  refine (θ_run _ _ _).mono (fun r h c => ?_) hrun
  have A : Cert.KernelIdeal.Attn.Args m c (Cert.ReferenceIdeal.Attn.argG m' c) (Cert.ReferenceIdeal.Attn.argX m' c)
      (Cert.ReferenceIdeal.Attn.argW1 m' c) (Cert.ReferenceIdeal.Attn.argQ1 m' c) (Cert.ReferenceIdeal.Attn.argK1 m' c)
      (Cert.ReferenceIdeal.Attn.argB1 m' c) (Cert.ReferenceIdeal.Attn.argW2 m' c) (Cert.ReferenceIdeal.Attn.argQ2 m' c)
      (Cert.ReferenceIdeal.Attn.argK2 m' c) (Cert.ReferenceIdeal.Attn.argB2 m' c) := by
    obtain ⟨e0, e1, e2, e3, e4, e5, e6, e7, e8, e9⟩ := hargs c
    exact ⟨e0.symm, e1.symm, e2.symm, e3.symm, e4.symm, e5.symm, e6.symm, e7.symm, e8.symm, e9.symm⟩
  have R : Cert.KernelIdeal.Attn.Reals (Cert.ReferenceIdeal.Attn.argX m' c)
      (Cert.ReferenceIdeal.Attn.argW1 m' c) (Cert.ReferenceIdeal.Attn.argQ1 m' c) (Cert.ReferenceIdeal.Attn.argK1 m' c)
      (Cert.ReferenceIdeal.Attn.argB1 m' c) (Cert.ReferenceIdeal.Attn.argQ2 m' c) (Cert.ReferenceIdeal.Attn.argK2 m' c) := by
    have h := reals m hpre c
    rw [A.x, A.w1, A.q1, A.k1, A.b1, A.q2, A.k2] at h
    exact h
  exact ⟨(h.1 c _ (Cert.KernelIdeal.Attn.mem_uc Cert.KernelIdeal.main_v3_1 rfl)).trans (Cert.KernelIdeal.Attn.result_features2 m c _ _ _ _ _ _ _ _ _ _ A R),
    (h.1 c _ (Cert.KernelIdeal.Attn.mem_uc Cert.KernelIdeal.main_v1_0 rfl)).trans (Cert.KernelIdeal.Attn.result_weights1 m c _ _ _ _ _ _ _ _ _ _ A R),
    (h.1 c _ (Cert.KernelIdeal.Attn.mem_uc Cert.KernelIdeal.main_v3_0 rfl)).trans (Cert.KernelIdeal.Attn.result_weights2 m c _ _ _ _ _ _ _ _ _ _ A R),
    Cert.KernelIdeal.Attn.kept m c r.2.mem (h.1 c)⟩

end Cert.Attn

end
-- ==== Proof.lean ====
/-
  The claims, put together: every program runs, leaves its arguments alone and ends with every counter at zero; naming the
  two constants preserves the program's meaning; the program and the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite
public import proofs.«01_k».proof.Proof.K.Run
public import proofs.«01_k».proof.Proof.KI.Run
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- Naming the constants is the two rules that state what each name stands for. -/
theorem preserved : Cert.preserves_Kernel_KernelIdeal :=
  ⟨IdealRules.named_const.statement Cert.KernelIdeal.κ "scale" .f32 0x3E8293EE#32 ((((Real.log 2) * (Real.sqrt 32))⁻¹ : ℝ) : EReal) rfl,
    IdealRules.named_const.statement Cert.KernelIdeal.κ "mask" .f32 0xCE6E6B28#32 ⊥ rfl⟩

/-- Every claim of the statement. -/
theorem claim : Cert.Claim := ⟨Cert.Kernel.Gen.facts, Cert.KernelIdeal.Gen.facts, Cert.ReferenceIdeal.Gen.facts, Cert.Pre_finite.Gen.facts,
  fun m ρ _ => Cert.Kernel.Attn.unchanged m ρ,
  fun m ρ _ => Cert.KernelIdeal.Attn.unchanged m ρ,
  fun m ρ _ => Cert.KernelIdeal.Attn.unchanged m ρ,
  fun m ρ _ => Cert.ReferenceIdeal.Attn.unchanged m ρ,
  fun m ρ _ => Cert.ReferenceIdeal.Attn.unchanged m ρ,
  preserved,
  Cert.Attn.equal⟩

end Cert.Proof

end
